-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S8x1024 : Shape := ⟨2, ![8, 1024]⟩
abbrev S8x2048x1024 : Shape := ⟨3, ![8, 2048, 1024]⟩
abbrev S8x1024x2048 : Shape := ⟨3, ![8, 1024, 2048]⟩
abbrev S1024x8 : Shape := ⟨2, ![1024, 8]⟩
abbrev S2048x8 : Shape := ⟨2, ![2048, 8]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S4096 : Shape := ⟨1, ![4096]⟩
abbrev S4096x1 : Shape := ⟨2, ![4096, 1]⟩
abbrev S8 : Shape := ⟨1, ![8]⟩
abbrev S1 : Shape := ⟨1, ![1]⟩
abbrev S7 : Shape := ⟨1, ![7]⟩
abbrev S5120 : Shape := ⟨1, ![5120]⟩
abbrev S40 : Shape := ⟨1, ![40]⟩
abbrev S40x1 : Shape := ⟨2, ![40, 1]⟩
abbrev S1x8 : Shape := ⟨2, ![1, 8]⟩
abbrev S40x8 : Shape := ⟨2, ![40, 8]⟩
abbrev S40x2 : Shape := ⟨2, ![40, 2]⟩
abbrev S5120x1 : Shape := ⟨2, ![5120, 1]⟩
abbrev S5120x1024 : Shape := ⟨2, ![5120, 1024]⟩
abbrev S128x1024 : Shape := ⟨2, ![128, 1024]⟩
abbrev S1x512x1024 : Shape := ⟨3, ![1, 512, 1024]⟩
abbrev S1x1 : Shape := ⟨2, ![1, 1]⟩
abbrev S1x1024x512 : Shape := ⟨3, ![1, 1024, 512]⟩
abbrev S512x1024 : Shape := ⟨2, ![512, 1024]⟩
abbrev S1024x512 : Shape := ⟨2, ![1024, 512]⟩
abbrev S128x512 : Shape := ⟨2, ![128, 512]⟩
abbrev S256x2 : Shape := ⟨2, ![256, 2]⟩
abbrev S256x1024 : Shape := ⟨2, ![256, 1024]⟩
abbrev S1x1024 : Shape := ⟨2, ![1, 1024]⟩
abbrev S1024 : Shape := ⟨1, ![1024]⟩

abbrev nBuf : Space → Nat
  | .hbm => 193
  | .vmem => 15
  | .smem => 2
  | _ => 0

abbrev hbmTy0_0 (i : Nat) : BufTy := match i % 128 with
  | 0 => ⟨S2048x1024, .f32⟩
  | 1 => ⟨S8x1024, .f32⟩
  | 2 => ⟨S8x2048x1024, .f32⟩
  | 3 => ⟨S8x2048x1024, .f32⟩
  | 4 => ⟨S8x1024x2048, .f32⟩
  | 5 => ⟨S1024x8, .f32⟩
  | 6 => ⟨S2048x8, .f32⟩
  | 7 => ⟨S_, .f32⟩
  | 8 => ⟨S2048, .f32⟩
  | 9 => ⟨S_, .f32⟩
  | 10 => ⟨S2048, .f32⟩
  | 11 => ⟨S2048, .f32⟩
  | 12 => ⟨S2048x1, .f32⟩
  | 13 => ⟨S2048x8, .f32⟩
  | 14 => ⟨S2048x8, .f32⟩
  | 15 => ⟨S2048x8, .f32⟩
  | 16 => ⟨S_, .f32⟩
  | 17 => ⟨S2048, .f32⟩
  | 18 => ⟨S2048x1, .f32⟩
  | 19 => ⟨S2048x8, .f32⟩
  | 20 => ⟨S2048x8, .f32⟩
  | 21 => ⟨S2048x2, .f32⟩
  | 22 => ⟨S2048x2, .i32⟩
  | 23 => ⟨S_, .f32⟩
  | 24 => ⟨S2048, .f32⟩
  | 25 => ⟨S2048x1, .f32⟩
  | 26 => ⟨S2048x2, .f32⟩
  | 27 => ⟨S2048x2, .f32⟩
  | 28 => ⟨S4096, .i32⟩
  | 29 => ⟨S4096, .i32⟩
  | 30 => ⟨S4096, .i32⟩
  | 31 => ⟨S4096, .i32⟩
  | 32 => ⟨S_, .i32⟩
  | 33 => ⟨S4096, .i32⟩
  | 34 => ⟨S4096, .i1⟩
  | 35 => ⟨S_, .i32⟩
  | 36 => ⟨S4096, .i32⟩
  | 37 => ⟨S4096, .i32⟩
  | 38 => ⟨S4096, .i32⟩
  | 39 => ⟨S4096x1, .i32⟩
  | 40 => ⟨S4096, .i32⟩
  | 41 => ⟨S_, .i32⟩
  | 42 => ⟨S8, .i32⟩
  | 43 => ⟨S_, .i32⟩
  | 44 => ⟨S_, .i32⟩
  | 45 => ⟨S4096, .i32⟩
  | 46 => ⟨S4096, .i32⟩
  | 47 => ⟨S_, .i32⟩
  | 48 => ⟨S4096, .i32⟩
  | 49 => ⟨S4096, .i1⟩
  | 50 => ⟨S_, .i32⟩
  | 51 => ⟨S4096, .i32⟩
  | 52 => ⟨S4096, .i32⟩
  | 53 => ⟨S4096, .i32⟩
  | 54 => ⟨S4096x1, .i32⟩
  | 55 => ⟨S_, .i32⟩
  | 56 => ⟨S4096, .i32⟩
  | 57 => ⟨S8, .i32⟩
  | 58 => ⟨S_, .i32⟩
  | 59 => ⟨S8, .i32⟩
  | 60 => ⟨S8, .i32⟩
  | 61 => ⟨S_, .i32⟩
  | 62 => ⟨S8, .i32⟩
  | 63 => ⟨S8, .i32⟩
  | 64 => ⟨S_, .i32⟩
  | 65 => ⟨S_, .i32⟩
  | 66 => ⟨S8, .i32⟩
  | 67 => ⟨S8, .i32⟩
  | 68 => ⟨S8, .i32⟩
  | 69 => ⟨S_, .i32⟩
  | 70 => ⟨S8, .i32⟩
  | 71 => ⟨S8, .i1⟩
  | 72 => ⟨S8, .i32⟩
  | 73 => ⟨S8, .i32⟩
  | 74 => ⟨S_, .i32⟩
  | 75 => ⟨S8, .i32⟩
  | 76 => ⟨S8, .i1⟩
  | 77 => ⟨S8, .i1⟩
  | 78 => ⟨S_, .i32⟩
  | 79 => ⟨S8, .i32⟩
  | 80 => ⟨S8, .i32⟩
  | 81 => ⟨S8, .i32⟩
  | 82 => ⟨S_, .i32⟩
  | 83 => ⟨S8, .i32⟩
  | 84 => ⟨S8, .i32⟩
  | 85 => ⟨S_, .i32⟩
  | 86 => ⟨S1, .i32⟩
  | 87 => ⟨S_, .i32⟩
  | 88 => ⟨S_, .i32⟩
  | 89 => ⟨S8, .i32⟩
  | 90 => ⟨S7, .i32⟩
  | 91 => ⟨S8, .i32⟩
  | 92 => ⟨S_, .i32⟩
  | 93 => ⟨S1, .i32⟩
  | 94 => ⟨S_, .i32⟩
  | 95 => ⟨S_, .i32⟩
  | 96 => ⟨S8, .i32⟩
  | 97 => ⟨S7, .i32⟩
  | 98 => ⟨S8, .i32⟩
  | 99 => ⟨S4096, .i32⟩
  | 100 => ⟨S_, .i32⟩
  | 101 => ⟨S4096, .i32⟩
  | 102 => ⟨S4096, .i1⟩
  | 103 => ⟨S_, .i32⟩
  | 104 => ⟨S4096, .i32⟩
  | 105 => ⟨S4096, .i32⟩
  | 106 => ⟨S4096, .i32⟩
  | 107 => ⟨S4096x1, .i32⟩
  | 108 => ⟨S4096, .i32⟩
  | 109 => ⟨S4096, .i32⟩
  | 110 => ⟨S_, .i32⟩
  | 111 => ⟨S4096, .i32⟩
  | 112 => ⟨S4096, .i1⟩
  | 113 => ⟨S_, .i32⟩
  | 114 => ⟨S4096, .i32⟩
  | 115 => ⟨S4096, .i32⟩
  | 116 => ⟨S4096, .i32⟩
  | 117 => ⟨S4096x1, .i32⟩
  | 118 => ⟨S4096, .i32⟩
  | 119 => ⟨S4096, .i32⟩
  | 120 => ⟨S_, .i32⟩
  | 121 => ⟨S5120, .i32⟩
  | 122 => ⟨S_, .i32⟩
  | 123 => ⟨S_, .i32⟩
  | 124 => ⟨S4096, .i32⟩
  | 125 => ⟨S4096, .i32⟩
  | 126 => ⟨S4096, .i32⟩
  | 127 => ⟨S_, .i32⟩
  | _ => ⟨S2048x1024, .f32⟩

abbrev hbmTy0_1 (i : Nat) : BufTy := match i % 128 with
  | 0 => ⟨S4096, .i32⟩
  | 1 => ⟨S4096, .i1⟩
  | 2 => ⟨S4096, .i32⟩
  | 3 => ⟨S4096, .i32⟩
  | 4 => ⟨S_, .i32⟩
  | 5 => ⟨S4096, .i32⟩
  | 6 => ⟨S4096, .i1⟩
  | 7 => ⟨S4096, .i1⟩
  | 8 => ⟨S_, .i32⟩
  | 9 => ⟨S4096, .i32⟩
  | 10 => ⟨S4096, .i32⟩
  | 11 => ⟨S4096, .i32⟩
  | 12 => ⟨S_, .i32⟩
  | 13 => ⟨S4096, .i32⟩
  | 14 => ⟨S4096, .i1⟩
  | 15 => ⟨S_, .i32⟩
  | 16 => ⟨S4096, .i32⟩
  | 17 => ⟨S4096, .i32⟩
  | 18 => ⟨S4096, .i32⟩
  | 19 => ⟨S4096x1, .i32⟩
  | 20 => ⟨S5120, .i32⟩
  | 21 => ⟨S40, .i32⟩
  | 22 => ⟨S_, .i32⟩
  | 23 => ⟨S40, .i32⟩
  | 24 => ⟨S40, .i32⟩
  | 25 => ⟨S8, .i32⟩
  | 26 => ⟨S40x1, .i32⟩
  | 27 => ⟨S1x8, .i32⟩
  | 28 => ⟨S40x8, .i32⟩
  | 29 => ⟨S40x8, .i32⟩
  | 30 => ⟨S40x8, .i1⟩
  | 31 => ⟨S40x8, .i32⟩
  | 32 => ⟨S_, .i32⟩
  | 33 => ⟨S40, .i32⟩
  | 34 => ⟨S_, .i32⟩
  | 35 => ⟨S40, .i32⟩
  | 36 => ⟨S40, .i32⟩
  | 37 => ⟨S_, .i32⟩
  | 38 => ⟨S_, .i32⟩
  | 39 => ⟨S40, .i32⟩
  | 40 => ⟨S40, .i1⟩
  | 41 => ⟨S40, .i32⟩
  | 42 => ⟨S40x1, .i32⟩
  | 43 => ⟨S40x1, .i32⟩
  | 44 => ⟨S_, .i32⟩
  | 45 => ⟨S4096, .i32⟩
  | 46 => ⟨S_, .i32⟩
  | 47 => ⟨S4096, .i32⟩
  | 48 => ⟨S4096, .i1⟩
  | 49 => ⟨S_, .i32⟩
  | 50 => ⟨S4096, .i32⟩
  | 51 => ⟨S4096, .i32⟩
  | 52 => ⟨S4096, .i32⟩
  | 53 => ⟨S4096x1, .i32⟩
  | 54 => ⟨S_, .i32⟩
  | 55 => ⟨S5120, .i32⟩
  | 56 => ⟨S5120, .i1⟩
  | 57 => ⟨S_, .i32⟩
  | 58 => ⟨S5120, .i32⟩
  | 59 => ⟨S5120, .i32⟩
  | 60 => ⟨S5120, .i32⟩
  | 61 => ⟨S5120x1, .i32⟩
  | 62 => ⟨S5120x1024, .f32⟩
  | 63 => ⟨S5120x1024, .f32⟩
  | 64 => ⟨S2048x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | .local _ .vmem, ⟨0, _⟩ => ⟨S128x1024, .f32⟩
  | .local _ .vmem, ⟨1, _⟩ => ⟨S128x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1024x512, .f32⟩
  | .local _ .vmem, ⟨7, _⟩ => ⟨S1x1024x512, .f32⟩
  | .local _ .vmem, ⟨8, _⟩ => ⟨S128x1024, .f32⟩
  | .local _ .vmem, ⟨9, _⟩ => ⟨S128x1024, .f32⟩
  | .local _ .vmem, ⟨10, _⟩ => ⟨S256x2, .f32⟩
  | .local _ .vmem, ⟨11, _⟩ => ⟨S256x2, .f32⟩
  | .local _ .vmem, ⟨12, _⟩ => ⟨S5120x1024, .f32⟩
  | .local _ .vmem, ⟨13, _⟩ => ⟨S256x1024, .f32⟩
  | .local _ .vmem, ⟨14, _⟩ => ⟨S256x1024, .f32⟩
  | .local _ .smem, ⟨0, _⟩ => ⟨S40x2, .i32⟩
  | .local _ .smem, ⟨1, _⟩ => ⟨S4096, .i32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_values : Ref sig .tc := ⟨.hbm, 21, rfl⟩
abbrev main_indices : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1_0 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_c_5 : Ref sig .tc := ⟨.hbm, 43, rfl⟩
abbrev main_call1_v0 : Ref sig .tc := ⟨.hbm, 44, rfl⟩
abbrev main_call1_v1 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_c_9 : Ref sig .tc := ⟨.hbm, 58, rfl⟩
abbrev main_v36 : Ref sig .tc := ⟨.hbm, 59, rfl⟩
abbrev main_v37 : Ref sig .tc := ⟨.hbm, 60, rfl⟩
abbrev main_c_10 : Ref sig .tc := ⟨.hbm, 61, rfl⟩
abbrev main_v38 : Ref sig .tc := ⟨.hbm, 62, rfl⟩
abbrev main_v39 : Ref sig .tc := ⟨.hbm, 63, rfl⟩
abbrev main_c_11 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_c : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_0 : Ref sig .tc := ⟨.hbm, 78, rfl⟩
abbrev main_call2_v12 : Ref sig .tc := ⟨.hbm, 79, rfl⟩
abbrev main_call2_v13 : Ref sig .tc := ⟨.hbm, 80, rfl⟩
abbrev main_v40 : Ref sig .tc := ⟨.hbm, 81, rfl⟩
abbrev main_c_12 : Ref sig .tc := ⟨.hbm, 82, rfl⟩
abbrev main_v41 : Ref sig .tc := ⟨.hbm, 83, rfl⟩
abbrev main_v42 : Ref sig .tc := ⟨.hbm, 84, rfl⟩
abbrev main_c_13 : Ref sig .tc := ⟨.hbm, 85, rfl⟩
abbrev main_v43 : Ref sig .tc := ⟨.hbm, 86, rfl⟩
abbrev main_call3_call0_c : Ref sig .tc := ⟨.hbm, 87, rfl⟩
abbrev main_call3_call0_v0 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_c_14 : Ref sig .tc := ⟨.hbm, 92, rfl⟩
abbrev main_v47 : Ref sig .tc := ⟨.hbm, 93, rfl⟩
abbrev main_call4_call0_c : Ref sig .tc := ⟨.hbm, 94, rfl⟩
abbrev main_call4_call0_v0 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_c_15 : Ref sig .tc := ⟨.hbm, 100, rfl⟩
abbrev main_v52 : Ref sig .tc := ⟨.hbm, 101, rfl⟩
abbrev main_v53 : Ref sig .tc := ⟨.hbm, 102, rfl⟩
abbrev main_c_16 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_c_17 : Ref sig .tc := ⟨.hbm, 110, rfl⟩
abbrev main_v60 : Ref sig .tc := ⟨.hbm, 111, rfl⟩
abbrev main_v61 : Ref sig .tc := ⟨.hbm, 112, rfl⟩
abbrev main_c_18 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_c_19 : Ref sig .tc := ⟨.hbm, 120, rfl⟩
abbrev main_v68 : Ref sig .tc := ⟨.hbm, 121, rfl⟩
abbrev main_c_20 : Ref sig .tc := ⟨.hbm, 122, rfl⟩
abbrev main_call5_v0 : Ref sig .tc := ⟨.hbm, 123, rfl⟩
abbrev main_call5_v1 : Ref sig .tc := ⟨.hbm, 124, rfl⟩
abbrev main_call5_v2 : Ref sig .tc := ⟨.hbm, 125, rfl⟩
abbrev main_call5_v3 : Ref sig .tc := ⟨.hbm, 126, rfl⟩
abbrev main_call5_v4 : Ref sig .tc := ⟨.hbm, 127, rfl⟩
abbrev main_call5_v5 : Ref sig .tc := ⟨.hbm, 128, rfl⟩
abbrev main_call5_v6 : Ref sig .tc := ⟨.hbm, 129, rfl⟩
abbrev main_call5_v7 : Ref sig .tc := ⟨.hbm, 130, rfl⟩
abbrev main_call5_v8 : Ref sig .tc := ⟨.hbm, 131, rfl⟩
abbrev main_call5_c : Ref sig .tc := ⟨.hbm, 132, rfl⟩
abbrev main_call5_v9 : Ref sig .tc := ⟨.hbm, 133, rfl⟩
abbrev main_call5_v10 : Ref sig .tc := ⟨.hbm, 134, rfl⟩
abbrev main_call5_v11 : Ref sig .tc := ⟨.hbm, 135, rfl⟩
abbrev main_call5_c_0 : Ref sig .tc := ⟨.hbm, 136, rfl⟩
abbrev main_call5_v12 : Ref sig .tc := ⟨.hbm, 137, rfl⟩
abbrev main_call5_v13 : Ref sig .tc := ⟨.hbm, 138, rfl⟩
abbrev main_v69 : Ref sig .tc := ⟨.hbm, 139, rfl⟩
abbrev main_c_21 : Ref sig .tc := ⟨.hbm, 140, rfl⟩
abbrev main_v70 : Ref sig .tc := ⟨.hbm, 141, rfl⟩
abbrev main_v71 : Ref sig .tc := ⟨.hbm, 142, rfl⟩
abbrev main_c_22 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_c_23 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_c_24 : Ref sig .tc := ⟨.hbm, 160, rfl⟩
abbrev main_v87 : Ref sig .tc := ⟨.hbm, 161, rfl⟩
abbrev main_c_25 : Ref sig .tc := ⟨.hbm, 162, rfl⟩
abbrev main_v88 : Ref sig .tc := ⟨.hbm, 163, rfl⟩
abbrev main_v89 : Ref sig .tc := ⟨.hbm, 164, rfl⟩
abbrev main_c_26 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_c_27 : Ref sig .tc := ⟨.hbm, 172, rfl⟩
abbrev main_v97 : Ref sig .tc := ⟨.hbm, 173, rfl⟩
abbrev main_c_28 : Ref sig .tc := ⟨.hbm, 174, rfl⟩
abbrev main_v98 : Ref sig .tc := ⟨.hbm, 175, rfl⟩
abbrev main_v99 : Ref sig .tc := ⟨.hbm, 176, rfl⟩
abbrev main_c_29 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_c_30 : Ref sig .tc := ⟨.hbm, 182, rfl⟩
abbrev main_v105 : Ref sig .tc := ⟨.hbm, 183, rfl⟩
abbrev main_v106 : Ref sig .tc := ⟨.hbm, 184, rfl⟩
abbrev main_c_31 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v96 : Ref sig .tc := ⟨.smem, 0, rfl⟩
abbrev main_v104 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨2, ![40, 4], ![false, false]⟩

abbrev pre0 : Pipeline.Prefetch sig := ⟨1, ![main_v96.idx], fun | 0 => main_v96.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v0 : Index := Scalar.indexCast arg0
  let c1 : Index := 1#32
  ![v0.toNat, 1]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c0_i32_1 : BitVec 32 := 0#32
  let v5 : BitVec 1 := Scalar.cmpi .sgt v1 c0_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1x1.size a ≤ S40x2.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let c0 : Index := 0#32
  let v1 : BitVec 32 := pf.at 0 (Rect.unit (s := S40x2) ![v0.toNat, 0] S1x1.size (k0_off1_inb i)) numel1_S1x1
  let c0_i32 : BitVec 32 := 0#32
  let c0_i32_0 : BitVec 32 := 0#32
  ![v1.toNat, arg1.toNat, c0_i32.toNat]

def cc0_transform_2 (k0_off1_inb : ∀ i : grid0.Coords, ∀ a, (k0_off1 i) a + S1x1.size a ≤ S40x2.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let c0 : Index := 0#32
  let v1 : BitVec 32 := pf.at 0 (Rect.unit (s := S40x2) ![v0.toNat, 0] S1x1.size (k0_off1_inb i)) numel1_S1x1
  let c0_i32 : BitVec 32 := 0#32
  let c0_i32_0 : BitVec 32 := 0#32
  ![v1.toNat, arg1.toNat, c0_i32.toNat]

def cc0_transform_3 (k0_off1_inb : ∀ i : grid0.Coords, ∀ a, (k0_off1 i) a + S1x1.size a ≤ S40x2.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let c0 : Index := 0#32
  let v1 : BitVec 32 := pf.at 0 (Rect.unit (s := S40x2) ![v0.toNat, 0] S1x1.size (k0_off1_inb i)) numel1_S1x1
  let c0_i32 : BitVec 32 := 0#32
  let c0_i32_0 : BitVec 32 := 0#32
  ![v1.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![8], ![false]⟩

abbrev pre1 : Pipeline.Prefetch sig := ⟨1, ![main_v104.idx], fun | 0 => main_v104.names | ⟨_ + 1, h⟩ => absurd h (Nat.not_lt.2 (Nat.le_add_left _ _)), fun | 0 => rfl | ⟨_ + 1, h⟩ => absurd h (Nat.not_lt.2 (Nat.le_add_left _ _))⟩

@[reducible] def k1_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k1_off1 (i : grid1.Coords) (k1_t1 : Fin k1_t1_loop.trips) : Fin 1 → Nat :=
  let c2_i32 : BitVec 32 := 2#32
  let arg0 : BitVec 32 := BitVec.ofNat 32 (i 0).val
  let c256_i32_1 : BitVec 32 := 256#32
  let v1 : BitVec 32 := Scalar.muli arg0 c256_i32_1
  let c0_i32 : BitVec 32 := 0#32
  let c1_i32 : BitVec 32 := 1#32
  let arg5 : BitVec 32 := Scf.iv c0_i32 c1_i32 k1_t1
  let v2 : BitVec 32 := Scalar.addi v1 arg5
  let v3 : BitVec 32 := Scalar.muli c2_i32 v2
  let v4 : Index := Scalar.indexCast v3
  ![v4.toNat]
def k1_off2 (i : grid1.Coords) (k1_t1 : Fin k1_t1_loop.trips) : Fin 1 → Nat :=
  let c2_i32_2 : BitVec 32 := 2#32
  let arg0 : BitVec 32 := BitVec.ofNat 32 (i 0).val
  let c256_i32_1 : BitVec 32 := 256#32
  let v1 : BitVec 32 := Scalar.muli arg0 c256_i32_1
  let c0_i32 : BitVec 32 := 0#32
  let c1_i32 : BitVec 32 := 1#32
  let arg5 : BitVec 32 := Scf.iv c0_i32 c1_i32 k1_t1
  let v2 : BitVec 32 := Scalar.addi v1 arg5
  let v6 : BitVec 32 := Scalar.muli c2_i32_2 v2
  let c1_i32_3 : BitVec 32 := 1#32
  let v7 : BitVec 32 := Scalar.addi v6 c1_i32_3
  let v8 : Index := Scalar.indexCast v7
  ![v8.toNat]
def k1_off3 (k1_t1 : Fin k1_t1_loop.trips) : Fin 2 → Nat :=
  let c0_i32 : BitVec 32 := 0#32
  let c1_i32 : BitVec 32 := 1#32
  let arg5 : BitVec 32 := Scf.iv c0_i32 c1_i32 k1_t1
  let v10 : Index := Scalar.indexCast arg5
  let c0 : Index := 0#32
  ![v10.toNat, 0]
def k1_off4 (v5 : BitVec 32) : Fin 2 → Nat :=
  let v13 : Index := Scalar.indexCast v5
  let c0_4 : Index := 0#32
  ![v13.toNat, 0]

def k1_chk1 (v5 : BitVec 32) : Prop :=
  (∀ a, (k1_off4 v5) a + S1x1024.size a ≤ S5120x1024.size a)
theorem k1_off4_inb : ∀ (v5 : BitVec 32) (k1_hw1 : k1_chk1 v5), ∀ a, (k1_off4 v5) a + S1x1024.size a ≤ S5120x1024.size a := fun v5 k1_hw1 => k1_hw1

def k1_off5 (k1_t1 : Fin k1_t1_loop.trips) : Fin 2 → Nat :=
  let c0_i32 : BitVec 32 := 0#32
  let c1_i32 : BitVec 32 := 1#32
  let arg5 : BitVec 32 := Scf.iv c0_i32 c1_i32 k1_t1
  let v18 : Index := Scalar.indexCast arg5
  let c1 : Index := 1#32
  ![v18.toNat, 1]
def k1_off6 (v9 : BitVec 32) : Fin 2 → Nat :=
  let v21 : Index := Scalar.indexCast v9
  let c0_5 : Index := 0#32
  ![v21.toNat, 0]

def k1_chk2 (v9 : BitVec 32) : Prop :=
  (∀ a, (k1_off6 v9) a + S1x1024.size a ≤ S5120x1024.size a)
theorem k1_off6_inb : ∀ (v9 : BitVec 32) (k1_hw2 : k1_chk2 v9), ∀ a, (k1_off6 v9) a + S1x1024.size a ≤ S5120x1024.size a := fun v9 k1_hw2 => k1_hw2

def k1_off7 (k1_t1 : Fin k1_t1_loop.trips) : Fin 2 → Nat :=
  let c0_i32 : BitVec 32 := 0#32
  let c1_i32 : BitVec 32 := 1#32
  let arg5 : BitVec 32 := Scf.iv c0_i32 c1_i32 k1_t1
  let v27 : Index := Scalar.indexCast arg5
  let c0_6 : Index := 0#32
  ![v27.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S5120x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S2048x1024 : Shape := ⟨2, ![2048, 1024]⟩
abbrev S8x1024 : Shape := ⟨2, ![8, 1024]⟩
abbrev S8x2048x1024 : Shape := ⟨3, ![8, 2048, 1024]⟩
abbrev S8x1024x2048 : Shape := ⟨3, ![8, 1024, 2048]⟩
abbrev S1024x8 : Shape := ⟨2, ![1024, 8]⟩
abbrev S2048x8 : Shape := ⟨2, ![2048, 8]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S2048x2x1 : Shape := ⟨3, ![2048, 2, 1]⟩
abbrev S2048x2x2 : Shape := ⟨3, ![2048, 2, 2]⟩
abbrev S2048x8x2048 : Shape := ⟨3, ![2048, 8, 2048]⟩
abbrev S2048x8x1024 : Shape := ⟨3, ![2048, 8, 1024]⟩

abbrev nBuf : Space → Nat
  | .hbm => 66
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8x1024, .f32⟩
  | .hbm, ⟨2, _⟩ => ⟨S8x2048x1024, .f32⟩
  | .hbm, ⟨3, _⟩ => ⟨S8x2048x1024, .f32⟩
  | .hbm, ⟨4, _⟩ => ⟨S8x1024x2048, .f32⟩
  | .hbm, ⟨5, _⟩ => ⟨S1024x8, .f32⟩
  | .hbm, ⟨6, _⟩ => ⟨S2048x8, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S2048x1, .f32⟩
  | .hbm, ⟨13, _⟩ => ⟨S2048x8, .f32⟩
  | .hbm, ⟨14, _⟩ => ⟨S2048x8, .f32⟩
  | .hbm, ⟨15, _⟩ => ⟨S2048x8, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S2048x8, .f32⟩
  | .hbm, ⟨20, _⟩ => ⟨S2048x8, .f32⟩
  | .hbm, ⟨21, _⟩ => ⟨S2048x2, .f32⟩
  | .hbm, ⟨22, _⟩ => ⟨S2048x2, .i32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S2048x2, .f32⟩
  | .hbm, ⟨27, _⟩ => ⟨S2048x2, .f32⟩
  | .hbm, ⟨28, _⟩ => ⟨S_, .f32⟩
  | .hbm, ⟨29, _⟩ => ⟨S2048x8, .f32⟩
  | .hbm, ⟨30, _⟩ => ⟨S2048, .i32⟩
  | .hbm, ⟨31, _⟩ => ⟨S2048x1, .i32⟩
  | .hbm, ⟨32, _⟩ => ⟨S_, .i32⟩
  | .hbm, ⟨33, _⟩ => ⟨S2048x1, .i32⟩
  | .hbm, ⟨34, _⟩ => ⟨S2048x1, .i1⟩
  | .hbm, ⟨35, _⟩ => ⟨S_, .i32⟩
  | .hbm, ⟨36, _⟩ => ⟨S2048x1, .i32⟩
  | .hbm, ⟨37, _⟩ => ⟨S2048x1, .i32⟩
  | .hbm, ⟨38, _⟩ => ⟨S2048x1, .i32⟩
  | .hbm, ⟨39, _⟩ => ⟨S_, .i32⟩
  | .hbm, ⟨40, _⟩ => ⟨S2048x2, .i32⟩
  | .hbm, ⟨41, _⟩ => ⟨S2048x2, .i1⟩
  | .hbm, ⟨42, _⟩ => ⟨S_, .i32⟩
  | .hbm, ⟨43, _⟩ => ⟨S2048x2, .i32⟩
  | .hbm, ⟨44, _⟩ => ⟨S2048x2, .i32⟩
  | .hbm, ⟨45, _⟩ => ⟨S2048x2, .i32⟩
  | .hbm, ⟨46, _⟩ => ⟨S2048x2, .i32⟩
  | .hbm, ⟨47, _⟩ => ⟨S2048x2x1, .i32⟩
  | .hbm, ⟨48, _⟩ => ⟨S2048x2x1, .i32⟩
  | .hbm, ⟨49, _⟩ => ⟨S2048x2x2, .i32⟩
  | .hbm, ⟨50, _⟩ => ⟨S2048x8, .f32⟩
  | .hbm, ⟨51, _⟩ => ⟨S2048x8x2048, .f32⟩
  | .hbm, ⟨52, _⟩ => ⟨S2048x8x2048, .f32⟩
  | .hbm, ⟨53, _⟩ => ⟨S2048x8x2048, .f32⟩
  | .hbm, ⟨54, _⟩ => ⟨S2048x8x2048, .f32⟩
  | .hbm, ⟨55, _⟩ => ⟨S_, .f32⟩
  | .hbm, ⟨56, _⟩ => ⟨S2048x8x2048, .f32⟩
  | .hbm, ⟨57, _⟩ => ⟨S2048x8x2048, .f32⟩
  | .hbm, ⟨58, _⟩ => ⟨S_, .f32⟩
  | .hbm, ⟨59, _⟩ => ⟨S2048x8x2048, .f32⟩
  | .hbm, ⟨60, _⟩ => ⟨S2048x8x2048, .f32⟩
  | .hbm, ⟨61, _⟩ => ⟨S2048x8x2048, .f32⟩
  | .hbm, ⟨62, _⟩ => ⟨S2048x8x2048, .f32⟩
  | .hbm, ⟨63, _⟩ => ⟨S8x1024x2048, .f32⟩
  | .hbm, ⟨64, _⟩ => ⟨S2048x8x1024, .f32⟩
  | .hbm, ⟨65, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_values : Ref sig .tc := ⟨.hbm, 21, rfl⟩
abbrev main_indices : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩

abbrev nD : Nat := 1
abbrev τ : Topo := Topo.v7x

variable {F : FTy → Type} [FloatOps F]
-- ==== Proof.Shared.Route.lean ====
/- The routing arithmetic over the naturals: 4096 picks, each of one of 8 experts, sorted by expert and laid out in
   segments whose lengths are the experts' counts rounded up to whole blocks of 128 rows. -/
module

public import Idealize.ShloMosaic.Lib.Routing.Count

public import Mathlib.Data.Nat.Count

@[expose] public section

namespace Cert.Proof.Route

open Idealize.ShloMosaic.Routing

variable (e : ℕ → ℕ)

/-- How many picks go to expert `k`. -/
def cnt (k : ℕ) : ℕ := Nat.count (fun j => e j = k) 4096
/-- That count rounded up to whole blocks of 128. -/
def padded (k : ℕ) : ℕ := (cnt e k + 127) / 128 * 128
/-- Where expert `k`'s segment starts: the padded counts of the experts before it. -/
def seg (k : ℕ) : ℕ := ((List.range k).map (padded e)).sum
/-- Where expert `k`'s picks start in the sorted order: the counts of the experts before it. -/
def uns (k : ℕ) : ℕ := ((List.range k).map (cnt e)).sum
/-- The row that the pick at place `p` of the sorted order `s` goes to. -/
def dst (s : ℕ → ℕ) (p : ℕ) : ℕ := seg e (e (s p)) + (p - uns e (e (s p)))

theorem seg_succ (k : ℕ) : seg e (k + 1) = seg e k + padded e k := by simp [seg, List.range_succ]
theorem uns_succ (k : ℕ) : uns e (k + 1) = uns e k + cnt e k := by simp [uns, List.range_succ]
theorem cnt_le_padded (k : ℕ) : cnt e k ≤ padded e k := by unfold padded; omega
theorem seg_mono {a b : ℕ} (h : a ≤ b) : seg e a ≤ seg e b := by
  induction h with
  | refl => exact le_rfl
  | step _ ih => exact ih.trans (by rw [seg_succ]; omega)

/-- Segments start at whole blocks. -/
theorem seg_dvd (k : ℕ) : 128 ∣ seg e k := by
  induction k with
  | zero => simp [seg]
  | succ k ih => rw [seg_succ]; exact Nat.dvd_add ih ⟨_, mul_comm _ _⟩

/-- The picks of the experts before `k` are those of an expert below `k`. -/
theorem uns_succ_eq (k : ℕ) : uns e (k + 1) = Nat.count (fun j => e j ≤ k) 4096 := sum_count_eq e k 4096

theorem uns_le (k : ℕ) : uns e k ≤ 4096 := by
  cases k with
  | zero => simp [uns]
  | succ k => rw [uns_succ_eq]; exact Nat.count_le _

theorem seg_le (k : ℕ) : seg e k ≤ uns e k + 127 * k := by
  induction k with
  | zero => simp [seg, uns]
  | succ k ih => rw [seg_succ, uns_succ]; unfold padded; omega

/-- All segments together take less than 5120 rows. -/
theorem seg_lt {k : ℕ} (hk : k ≤ 8) : seg e k < 5120 := by
  have := seg_le e k
  have := uns_le e k
  omega

theorem cnt_le (k : ℕ) : cnt e k ≤ 4096 := Nat.count_le _
theorem padded_lt (k : ℕ) : padded e k < 5120 := by have := cnt_le e k; unfold padded; omega

/-- An order of the picks by expert: a permutation along which experts do not decrease. -/
structure Order (s : ℕ → ℕ) : Prop where
  lt : ∀ p < 4096, s p < 4096
  inj : ∀ p < 4096, ∀ q < 4096, s p = s q → p = q
  surj : ∀ j < 4096, ∃ p < 4096, s p = j
  mono : ∀ p q, p ≤ q → q < 4096 → e (s p) ≤ e (s q)

variable {e} {s : ℕ → ℕ} (H : Order e s)

include H

/-- Counting along the order counts the same picks. -/
theorem count_order (k : ℕ) : Nat.count (fun p => e (s p) ≤ k) 4096 = Nat.count (fun j => e j ≤ k) 4096 := by
  rw [Nat.count_eq_card_filter_range, Nat.count_eq_card_filter_range]
  refine Finset.card_bij (fun p _ => s p) (fun p hp => ?_) (fun p hp q hq h => ?_) fun j hj => ?_
  · rw [Finset.mem_filter, Finset.mem_range] at hp ⊢
    exact ⟨H.lt p hp.1, hp.2⟩
  · rw [Finset.mem_filter, Finset.mem_range] at hp hq
    exact H.inj p hp.1 q hq.1 h
  · rw [Finset.mem_filter, Finset.mem_range] at hj
    obtain ⟨p, hp, rfl⟩ := H.surj j hj.1
    exact ⟨p, by rw [Finset.mem_filter, Finset.mem_range]; exact ⟨hp, hj.2⟩, rfl⟩

/-- Place `p` holds a pick of an expert up to `k` exactly where `p` is below the start of expert `k + 1`. -/
theorem le_iff_lt_uns {p : ℕ} (hp : p < 4096) (k : ℕ) : e (s p) ≤ k ↔ p < uns e (k + 1) := by
  rw [uns_succ_eq, ← count_order H k]
  exact lt_count_iff (Q := fun p => e (s p) ≤ k) (fun a b hab hb hQ => (H.mono a b hab hb).trans hQ) hp

theorem uns_le_place {p : ℕ} (hp : p < 4096) : uns e (e (s p)) ≤ p := by
  rcases hk : e (s p) with _ | k
  · simp [uns]
  · have := le_iff_lt_uns H hp k
    omega

theorem place_lt {p : ℕ} (hp : p < 4096) : p < uns e (e (s p)) + cnt e (e (s p)) := by
  have := (le_iff_lt_uns H hp (e (s p))).1 le_rfl
  rwa [uns_succ] at this

theorem seg_le_dst (p : ℕ) : seg e (e (s p)) ≤ dst e s p := Nat.le_add_right _ _

theorem dst_lt_add {p : ℕ} (hp : p < 4096) : dst e s p < seg e (e (s p)) + cnt e (e (s p)) := by
  have h1 := uns_le_place H hp
  have h2 := place_lt H hp
  unfold dst
  omega

theorem dst_lt_seg {p : ℕ} (hp : p < 4096) : dst e s p < seg e (e (s p) + 1) := by
  have h1 := dst_lt_add H hp
  have h2 := cnt_le_padded e (e (s p))
  rw [seg_succ]
  omega

theorem dst_lt {p : ℕ} (hp : p < 4096) (he : e (s p) < 8) : dst e s p < 5120 :=
  (dst_lt_seg H hp).trans (seg_lt e (by omega))

/-- Different places go to different rows. -/
theorem dst_inj {p q : ℕ} (hp : p < 4096) (hq : q < 4096) (h : dst e s p = dst e s q) : p = q := by
  have key : ∀ p q, p < 4096 → q < 4096 → e (s p) < e (s q) → dst e s p < dst e s q := fun p q hp hq hlt =>
    (dst_lt_seg H hp).trans_le ((seg_mono e hlt).trans (seg_le_dst H q))
  rcases lt_trichotomy (e (s p)) (e (s q)) with hlt | heq | hgt
  · exact absurd h (key p q hp hq hlt).ne
  · have h1 := uns_le_place H hp
    have h2 := uns_le_place H hq
    unfold dst at h
    rw [heq] at h h1
    omega
  · exact absurd h (key q p hq hp hgt).ne'

/-- The block of a pick's row: the experts whose segments end at or before it are those below the pick's. -/
theorem block_count {p : ℕ} (hp : p < 4096) (he : e (s p) < 8) :
    Nat.count (fun k => seg e k + padded e k ≤ dst e s p / 128 * 128) 8 = e (s p) := by
  have h1 := seg_le_dst H p
  have h2 := dst_lt_seg H hp
  obtain ⟨c, hc⟩ := seg_dvd e (e (s p))
  have h3 : seg e (e (s p)) ≤ dst e s p / 128 * 128 := by omega
  rw [count_congr_of_lt (Q := fun k => k < e (s p)) 8 fun k _ => by
    rw [← seg_succ]
    refine ⟨fun h => ?_, fun h => (seg_mono e h).trans h3⟩
    by_contra hk
    have := seg_mono e (Nat.succ_le_succ (Nat.le_of_not_lt hk))
    simp only [Nat.succ_eq_add_one] at this
    omega]
  rw [Nat.count_eq_card_filter_range]
  have : (Finset.range 8).filter (fun k => k < e (s p)) = Finset.range (e (s p)) := by
    ext k; simp only [Finset.mem_filter, Finset.mem_range]; omega
  rw [this, Finset.card_range]

/-- The block of a pick's row is below the end of all segments. -/
theorem block_used {p : ℕ} (hp : p < 4096) (he : e (s p) < 8) : dst e s p / 128 * 128 < seg e 8 := by
  have h2 := dst_lt_seg H hp
  have := seg_mono e (show e (s p) + 1 ≤ 8 by omega)
  omega

end Cert.Proof.Route
-- ==== Proof.Shared.Words.lean ====
/- Host operations on index words, read at an entry: scatters of scalars into a vector of another length, the argsort by
   an integer key, and the two greatest of a row. -/
module

public import Idealize.ShloMosaic.Lib.Routing.Words
public import Idealize.ShloMosaic.Lib.Routing.Ops
public import Idealize.ShloMosaic.Lib.Routing.OpsSet
public import Idealize.ShloMosaic.Lib.Routing.OpsPair
public import Idealize.ShloMosaic.Lib.Routing.OpsOrder
public import Idealize.ShloMosaic.Lib.Routing.OpsSearch
public import Idealize.ShloMosaic.Lib.SortFacts

@[expose] public section

namespace Cert.Proof.Words

open Idealize.ShloMosaic Idealize.ShloMosaic.Routing Idealize.ShloMosaic.ValueIdx

/-! ## Scatters of `M` scalars into a vector of `N` -/

section Scatter

variable {N M : ℕ} (d : ScatterDims (shape1 N) (shape2 M 1) (shape1 M)) (hiw : d.insertedWindowDims = [0])
  (hsd : d.scatterDimsToOperandDims = [0]) (hivd : d.indexVectorDim = 1) (idx : IVec (shape2 M 1) 32)

include hiw hsd hivd

/-- Update `i` lands at entry `x` exactly when its index word, read signed, is `x`. -/
theorem lands (i : Fin M) (x : Fin N) :
    d.resultIdx? (ix1 i) idx = some (ix1 x) ↔ (idx (ix2 i (0 : Fin 1))).toInt = (x.val : ℤ) := by
  have hm : (0 : Fin 1) ∈ d.scatterDimsToOperandDims := hsd ▸ List.mem_singleton_self _
  have hw : d.window (ix1 i) 0 = 0 := by
    unfold ScatterDims.window
    refine dif_neg fun h => ?_
    have h' := of_decide_eq_true (List.mem_filter.1 h).2
    exact h' (hiw ▸ List.mem_singleton_self _)
  have hs : d.start (ix1 i) idx 0 = (idx (ix2 i (0 : Fin 1))).toInt := by
    unfold ScatterDims.start
    rw [dif_pos hm]
    congr 2
    funext b
    refine Fin.ext ?_
    match b with
    | ⟨0, _⟩ =>
      unfold ScatterDims.siIdx
      rw [dif_neg (by rw [hivd]; exact Nat.zero_ne_one)]
      unfold ScatterDims.siCoord
      simp only [Fin.val_cast]
      have e : ∀ X : Fin 1, (ix1 i X).val = i.val := fun X => by obtain rfl := Subsingleton.elim X 0; rfl
      exact e _
    | ⟨1, _⟩ =>
      unfold ScatterDims.siIdx
      rw [dif_pos (by rw [hivd])]
      show List.idxOf (0 : Fin 1) d.scatterDimsToOperandDims = 0
      rw [hsd]; simp
  rw [resultIdx?_ix1, hs, hw]
  simp

variable (g : ℕ → ℕ) (hg : ∀ i : Fin M, idx (ix2 i (0 : Fin 1)) = BitVec.ofNat 32 (g i.val)) (hg31 : ∀ i : Fin M, g i.val < 2 ^ 31)
include hg hg31

/-- Update `i`, whose index word is that of the natural `g i`, lands at entry `x` exactly when `g i` is `x`. -/
theorem lands_nat (i : Fin M) (x : Fin N) : d.resultIdx? (ix1 i) idx = some (ix1 x) ↔ g i.val = x.val := by
  rw [lands d hiw hsd hivd, hg, BitVec.toInt_eq_toNat_of_lt (by
    have := hg31 i
    rw [BitVec.toNat_ofNat, Nat.mod_eq_of_lt (by omega)]; omega), BitVec.toNat_ofNat, Nat.mod_eq_of_lt (by have := hg31 i; omega)]
  exact Int.natCast_inj

/-- Adding ones at the indices into zeros counts, at each entry, the updates that land there. -/
theorem histogram (x0 : IVec (shape1 N) 32) (hx0 : ∀ i, x0 i = 0#32) (upd : IVec (shape1 M) 32) (hupd : ∀ i, upd i = 1#32) (x : Fin N) :
    Host.scatter d IntOp.addi x0 idx upd (ix1 x) = BitVec.ofNat 32 (Nat.count (fun i => g i = x.val) M) := by
  rw [scatter_at, hx0]
  have hstep : ∀ (a : BitVec 32) (n : Fin (shape1 M).numel), (if d.resultIdx? ((shape1 M).rowMajor.symm n) idx = some (ix1 x)
      then IntOp.addi a (upd ((shape1 M).rowMajor.symm n)) else a) = if decide (g n.val = x.val) = true then IntOp.addi a 1#32 else a := fun a n => by
    rw [symm1, hupd, if_congr (lands_nat d hiw hsd hivd idx g hg hg31 _ x) rfl rfl]
    simp
  have key := foldl_count (fun (r : Unit → BitVec 32) (n : Fin (shape1 M).numel) _ => if decide (g n.val = x.val) = true then IntOp.addi (r ()) 1#32 else r ())
    () (fun n => decide (g n.val = x.val)) (fun _ _ => rfl) (List.finRange (shape1 M).numel) (fun _ => 0#32) 0 rfl
  have hfold : ∀ (l : List (Fin (shape1 M).numel)) (a : BitVec 32) (r : Unit → BitVec 32), r () = a →
      l.foldl (fun a n => if d.resultIdx? ((shape1 M).rowMajor.symm n) idx = some (ix1 x) then IntOp.addi a (upd ((shape1 M).rowMajor.symm n)) else a) a
        = l.foldl (fun (r : Unit → BitVec 32) (n : Fin (shape1 M).numel) _ => if decide (g n.val = x.val) = true then IntOp.addi (r ()) 1#32 else r ()) r () := by
    intro l
    induction l with
    | nil => exact fun _ _ h => h.symm
    | cons n l ih => intro a r h; rw [List.foldl_cons, List.foldl_cons]; exact ih _ _ (by rw [hstep, h])
  rw [hfold _ _ (fun _ => 0#32) rfl, key, Nat.zero_add, countP_finRange _ (fun i => g i = x.val), numel1]

/-- A scatter that replaces, at an entry that the update `i` alone lands at: the update. -/
theorem put_hit {α : Type} (x0 : (shape1 N).Idx → α) (upd : (shape1 M).Idx → α) (i : Fin M) (x : Fin N) (hi : g i.val = x.val)
    (hinj : ∀ j : Fin M, g j.val = g i.val → j = i) : Host.scatter d (fun _ b => b) x0 idx upd (ix1 x) = upd (ix1 i) :=
  scatter_set_hit d x0 idx upd (ix1 x) _ (fun k hk => by
    obtain ⟨j, rfl⟩ : ∃ j : Fin M, k = ix1 j := ⟨k 0, by funext a; obtain rfl := Subsingleton.elim a 0; rfl⟩
    rw [hinj j (((lands_nat d hiw hsd hivd idx g hg hg31 j x).1 hk).trans hi.symm)]) (ix1 i)
    ((lands_nat d hiw hsd hivd idx g hg hg31 i x).2 hi)

end Scatter

/-! ## The argsort by an integer key -/

section Argsort

/-- The stable sort's places along the keys `e`: place `p` holds the position `place e p`. -/
noncomputable def place {n : ℕ} (e : Fin n → BitVec 32) : Fin n → Fin n := sortedFrom fun k k' => IntOp.cmpi .slt (e k) (e k') == 1#1

/-- Entry `p` of the second result of a sort of keys with an index ramp is the position the sort puts at `p`. -/
theorem argsort_at {n : ℕ} (cmp : BitVec 32 × BitVec 32 → BitVec 32 × BitVec 32 → BitVec 1) (hcmp : ∀ a b, cmp a b = IntOp.cmpi .slt a.1 b.1)
    (x : IVec (shape1 n) 32) (p : Fin n) :
    (Host.sort2 (shape1 n) 0 cmp x (iotaInDim (shape1 n) 32 0)).2 (ix1 p) = BitVec.ofNat 32 (place (fun k => x (ix1 k)) p).val := by
  obtain rfl : cmp = fun a b => IntOp.cmpi .slt a.1 b.1 := funext fun a => funext fun b => hcmp a b
  unfold Host.sort2
  rw [dif_pos (show 0 < (shape1 n).rank from Nat.zero_lt_one)]
  have hal : ∀ k : Fin n, (ix1 p : (shape1 n).Idx).along ⟨0, Nat.zero_lt_one⟩ k = ix1 k := fun k => by
    funext a; obtain rfl := Subsingleton.elim a ⟨0, Nat.zero_lt_one⟩; simp [Shape.Idx.along]; rfl
  have hB : (fun k k' : Fin n => IntOp.cmpi .slt (x ((ix1 p : (shape1 n).Idx).along ⟨0, Nat.zero_lt_one⟩ k))
      (x ((ix1 p : (shape1 n).Idx).along ⟨0, Nat.zero_lt_one⟩ k')) == 1#1) = fun k k' => IntOp.cmpi .slt (x (ix1 k)) (x (ix1 k')) == 1#1 :=
    funext fun k => funext fun k' => by rw [hal, hal]
  exact (congrArg (fun B : Fin n → Fin n → Bool => iotaInDim (shape1 n) 32 0 ((ix1 p : (shape1 n).Idx).along ⟨0, Nat.zero_lt_one⟩
    (sortedFrom B p))) hB).trans (congrArg (iotaInDim (shape1 n) 32 0) (hal _))

theorem place_injective {n : ℕ} (e : Fin n → BitVec 32) : Function.Injective (place e) := sortedFrom_injective _
theorem place_surjective {n : ℕ} (e : Fin n → BitVec 32) : Function.Surjective (place e) := sortedFrom_surjective _

theorem slt_iff {a b : ℕ} (ha : a < 2 ^ 31) (hb : b < 2 ^ 31) : IntOp.cmpi .slt (BitVec.ofNat 32 a) (BitVec.ofNat 32 b) = 1#1 ↔ a < b := by
  show BitVec.ofBool ((BitVec.ofNat 32 a).slt (BitVec.ofNat 32 b)) = 1#1 ↔ _
  rw [slt_ofNat32 ha hb]
  by_cases h : a < b <;> simp [h]

/-- Along the sort, keys (words of small naturals) do not decrease. -/
theorem place_mono {n : ℕ} (e : Fin n → BitVec 32) (f : Fin n → ℕ) (hf : ∀ k, e k = BitVec.ofNat 32 (f k)) (hf31 : ∀ k, f k < 2 ^ 31)
    {p q : Fin n} (h : p ≤ q) : f (place e p) ≤ f (place e q) := by
  have hc : ∀ k k', (IntOp.cmpi .slt (e k) (e k') == 1#1) = decide (f k < f k') := fun k k' => by
    rw [hf, hf, Bool.eq_iff_iff, beq_iff_eq, decide_eq_true_iff]
    exact slt_iff (hf31 k) (hf31 k')
  rcases h.lt_or_eq with h | rfl
  · have := sortedFrom_noInversion (fun k k' : Fin n => decide (f k < f k')) (fun k k' => IntOp.cmpi .slt (e k) (e k') == 1#1)
      (fun a b h => by rw [hc] at h; simp only [decide_eq_true_eq, decide_eq_false_iff_not] at h ⊢; omega)
      (fun a b h => by rw [hc]; exact h)
      (fun a b c h1 h2 => by simp only [decide_eq_false_iff_not] at h1 h2 ⊢; omega) p q h
    simp only [decide_eq_false_iff_not] at this
    exact Nat.le_of_not_lt this
  · exact le_rfl

end Argsort

/-! ## The `k` greatest of each row -/

section TopK

/-- The index results of a top-k along the rows of an `[a, b]` array: at row `t` and place `q`, the position that the
    row's sort puts at `q`; so below `b`, and different at different places. -/
theorem topK_indices {α : Type} {a b k : ℕ} (gt : α → α → BitVec 1) (x : (shape2 a b).Idx → α)
    (h : (shape2 a b).Slices (fun _ => 0) (shape2 a k)) (hk : k ≤ b) :
    ∃ f : Fin a → Fin k → Fin b, (∀ t, Function.Injective (f t)) ∧
      (∀ t q, (Host.topK (shape2 a k) 1 gt x h).2 (ix2 t q) = BitVec.ofNat 32 (f t q).val) ∧
      ∀ t q, (Host.topK (shape2 a k) 1 gt x h).1 (ix2 t q) = x (ix2 t (f t q)) := by
  have h1 : 1 < (shape2 a b).rank := Nat.one_lt_two
  have hal : ∀ (t : Fin a) (q : Fin b) (r : Fin b), (ix2 t q : (shape2 a b).Idx).along ⟨1, h1⟩ r = ix2 t r := fun t q r => by
    funext c
    match c with
    | ⟨0, _⟩ => rfl
    | ⟨1, _⟩ => rfl
  have cut : ∀ {β : Type} (t : Fin a) (q : Fin k) (y : (shape2 a b).Idx → β),
      extractStridedSlice (shape2 a k) (fun _ => 0) y h (ix2 t q) = y (ix2 t (q.castLE hk)) := fun t q y => by
    unfold extractStridedSlice
    refine congrArg y (funext fun c => Fin.ext ?_)
    match c with
    | ⟨0, _⟩ => exact Nat.zero_add _
    | ⟨1, _⟩ => exact Nat.zero_add _
  have hB : ∀ (t : Fin a) (q : Fin b), (fun r r' : Fin b => gt (x ((ix2 t q : (shape2 a b).Idx).along ⟨1, h1⟩ r))
      (x ((ix2 t q : (shape2 a b).Idx).along ⟨1, h1⟩ r')) == 1#1) = fun r r' => gt (x (ix2 t r)) (x (ix2 t r')) == 1#1 := fun t q =>
    funext fun r => funext fun r' => by rw [hal, hal]
  have row : ∀ {β : Type} (t : Fin a) (q : Fin k) (y : (shape2 a b).Idx → β),
      y ((ix2 t (q.castLE hk) : (shape2 a b).Idx).along ⟨1, h1⟩ (sortedFrom (fun r r' : Fin b =>
        gt (x ((ix2 t (q.castLE hk) : (shape2 a b).Idx).along ⟨1, h1⟩ r)) (x ((ix2 t (q.castLE hk) : (shape2 a b).Idx).along ⟨1, h1⟩ r')) == 1#1) (q.castLE hk)))
      = y (ix2 t (sortedFrom (fun r r' => gt (x (ix2 t r)) (x (ix2 t r')) == 1#1) (q.castLE hk))) := fun t q y =>
    (congrArg (fun B : Fin b → Fin b → Bool => y ((ix2 t (q.castLE hk) : (shape2 a b).Idx).along ⟨1, h1⟩ (sortedFrom B (q.castLE hk)))) (hB t _)).trans
      (congrArg y (hal _ _ _))
  refine ⟨fun t q => sortedFrom (fun r r' => gt (x (ix2 t r)) (x (ix2 t r')) == 1#1) (q.castLE hk),
    fun t q q' e => Fin.ext (congrArg (fun z : Fin b => z.val) (sortedFrom_injective _ e)), fun t q => ?_, fun t q => ?_⟩
  · unfold Host.topK
    dsimp only
    refine (cut t q _).trans ?_
    unfold Host.sort2
    rw [dif_pos h1]
    refine (row t q (fun i => if hd : 1 < (shape2 a b).rank then iotaInDim (shape2 a b) 32 ⟨1, hd⟩ i else 0#32)).trans ?_
    exact dif_pos h1
  · unfold Host.topK
    dsimp only
    refine (cut t q _).trans ?_
    unfold Host.sort2
    rw [dif_pos h1]
    exact row t q x

end TopK

end Cert.Proof.Words
-- ==== Proof.Shared.Plan.lean ====
/- The routing tables' words: each host operation of the routing, read at an entry as the word of the natural that
   `Shared.Route` names. -/
module

public import proofs.«01_k».proof.Proof.Shared.Route
public import proofs.«01_k».proof.Proof.Shared.Words
public import Idealize.ShloMosaic.Lib.Pipeline.Value

@[expose] public section

namespace Cert.Proof.Plan

open Idealize.ShloMosaic Idealize.ShloMosaic.Routing Idealize.ShloMosaic.ValueIdx Idealize.ShloMosaic.WordCmp
open Cert.Proof.Words Cert.Proof.Route

/-- The index words `x`, a negative one having `n` added (an index from the end). -/
abbrev wrap {s : Shape} (hb : shape0.BroadcastsInDim s (![] : Fin 0 → Fin s.rank)) (n : BitVec 32) (x : IVec s 32) : IVec s 32 :=
  select (cmpi .slt x (broadcastInDim s ![] hb (constantI shape0 32 0#32))) (addi x (broadcastInDim s ![] hb (constantI shape0 32 n))) x

/-- A word of a small natural is not negative, so it stays. -/
theorem wrap_at {s : Shape} (hb : shape0.BroadcastsInDim s (![] : Fin 0 → Fin s.rank)) (n : BitVec 32) (x : IVec s 32) (i : s.Idx) {a : ℕ}
    (hx : x i = BitVec.ofNat 32 a) (ha : a < 2 ^ 31) : wrap hb n x i = BitVec.ofNat 32 a := by
  unfold wrap
  rw [select_at, cmpi_at, bc0, constantI_at, hx]
  exact wrap_of_lt _ _ (by rw [BitVec.toNat_ofNat, Nat.mod_eq_of_lt (by omega)]; exact ha)

section Col

variable {M : ℕ} (hb : shape0.BroadcastsInDim (shape1 M) (![] : Fin 0 → Fin (shape1 M).rank))
  (hc : (shape1 M).BroadcastsInDim (shape2 M 1) (![0] : Fin 1 → Fin (shape2 M 1).rank)) (n : BitVec 32) (x : IVec (shape1 M) 32)

/-- The wrapped index words as a column. -/
theorem col_at (p : Fin M) {a : ℕ} (hx : x (ix1 p) = BitVec.ofNat 32 a) (ha : a < 2 ^ 31) :
    broadcastInDim (shape2 M 1) ![0] hc (wrap hb n x) (ix2 p (0 : Fin 1)) = BitVec.ofNat 32 a := by
  rw [bcCol]
  exact wrap_at hb n x _ hx ha

/-- A gather of scalars by wrapped index words reads the named entry. -/
theorem take_at {α : Type} {N : ℕ} (d : GatherDims (shape1 N) (shape2 M 1) (shape1 M)) (hcoll : d.collapsedSliceDims = [0])
    (hob : d.operandBatchingDims = []) (hsim : d.startIndexMap = [0]) (hivd : d.indexVectorDim = 1) (y : (shape1 N).Idx → α) (p : Fin M)
    {k : ℕ} (hk : k < N) (h31 : k < 2 ^ 31) (hx : x (ix1 p) = BitVec.ofNat 32 k) :
    Host.gather d y (broadcastInDim (shape2 M 1) ![0] hc (wrap hb n x)) (ix1 p) = y (ix1 ⟨k, hk⟩) :=
  take_ap d hcoll hob hsim hivd y _ p hk h31 (col_at hb hc n x p hx h31)

end Col

/-- A zero put before the first seven entries of a vector of eight. -/
theorem shifted (z : IVec (shape1 1) 32) (x : IVec (shape1 8) 32) (hs : (shape1 8).Slices ![0] (shape1 7))
    (hc : Shape.Concatenates [shape1 1, shape1 7] (shape1 8) 0) (f : ℕ → ℕ) (hz : z (ix1 0) = BitVec.ofNat 32 (f 0))
    (hx : ∀ k : Fin 8, x (ix1 k) = BitVec.ofNat 32 (f (k.val + 1))) (k : Fin 8) :
    concatenate (shape1 8) 0 [⟨shape1 1, z⟩, ⟨shape1 7, extractStridedSlice (shape1 7) ![0] x hs⟩] hc (ix1 k) = BitVec.ofNat 32 (f k.val) := by
  obtain ⟨k, hk⟩ := k
  cases k with
  | zero =>
    exact (concatenate_pair_apply_left (s₁ := shape1 1) (s₂ := shape1 7) (t := shape1 8) 0 z _ hc _ rfl (ix1 0)
      fun b => by obtain rfl : b = 0 := Subsingleton.elim _ _; rfl).trans hz
  | succ k =>
    refine (concatenate_pair_apply_right (s₁ := shape1 1) (s₂ := shape1 7) (t := shape1 8) 0 z _ hc _ rfl rfl (ix1 ⟨k, by omega⟩)
      (fun b hb => absurd (Subsingleton.elim _ _) hb) rfl).trans ?_
    rw [slice1 0 x hs ⟨k, by omega⟩ (by show 0 + k < 8; omega)]
    refine Eq.trans (congrArg x (congrArg ix1 (Fin.ext (Nat.zero_add k)))) (hx ⟨k, by omega⟩)

/-- Two columns side by side: the left one. -/
theorem beside_left {n : ℕ} (x y : IVec (shape2 n 1) 32) (hc : Shape.Concatenates [shape2 n 1, shape2 n 1] (shape2 n 2) 1) (i : Fin n) :
    concatenate (shape2 n 2) 1 [⟨shape2 n 1, x⟩, ⟨shape2 n 1, y⟩] hc (ix2 i (0 : Fin 2)) = x (ix2 i (0 : Fin 1)) :=
  concatenate_pair_apply_left (s₁ := shape2 n 1) (s₂ := shape2 n 1) (t := shape2 n 2) 1 x y hc _ rfl (ix2 i 0) fun b => by
    fin_cases b <;> rfl

/-- Two columns side by side: the right one. -/
theorem beside_right {n : ℕ} (x y : IVec (shape2 n 1) 32) (hc : Shape.Concatenates [shape2 n 1, shape2 n 1] (shape2 n 2) 1) (i : Fin n) :
    concatenate (shape2 n 2) 1 [⟨shape2 n 1, x⟩, ⟨shape2 n 1, y⟩] hc (ix2 i (1 : Fin 2)) = y (ix2 i (0 : Fin 1)) :=
  concatenate_pair_apply_right (s₁ := shape2 n 1) (s₂ := shape2 n 1) (t := shape2 n 2) 1 x y hc _ rfl rfl (ix2 i 0)
    (fun b hb => by fin_cases b; exacts [rfl, absurd rfl hb]) rfl

/-- An expert's padded count: its count and 127 divided by 128, rounded down, times 128. -/
theorem padded_at (e : ℕ → ℕ) (hb : shape0.BroadcastsInDim (shape1 8) (![] : Fin 0 → Fin (shape1 8).rank)) (c : IVec (shape1 8) 32) (k : Fin 8)
    (hc : c (ix1 k) = BitVec.ofNat 32 (cnt e k.val)) :
    muli (pyDiv hb (subi (addi c (broadcastInDim (shape1 8) ![] hb (constantI shape0 32 128#32))) (broadcastInDim (shape1 8) ![] hb (constantI shape0 32 1#32)))
      (constantI shape0 32 128#32)) (broadcastInDim (shape1 8) ![] hb (constantI shape0 32 128#32)) (ix1 k) = BitVec.ofNat 32 (padded e k.val) := by
  have hle := cnt_le e k.val
  rw [muli_ap, bc0, constantI_at, pyDiv_ap hb _ _ (ix1 k) (a := cnt e k.val + 127) (b := 128) ?_ rfl (by omega) (by omega) (by omega)]
  · unfold padded
    exact (BitVec.ofNat_mul _ _).symm
  · rw [subi_ap, addi_ap, bc0, bc0, constantI_at, constantI_at, hc, show (128#32 : BitVec 32) = BitVec.ofNat 32 128 from rfl,
      show (1#32 : BitVec 32) = BitVec.ofNat 32 1 from rfl, ← BitVec.ofNat_add, ofNat32_sub (by omega)]
    rfl

/-- The running sum up to and with entry `k` is the sum of the first `k + 1`. -/
theorem running (f : ℕ → ℕ) (x : IVec (shape1 8) 32) (hx : ∀ k : Fin 8, x (ix1 k) = BitVec.ofNat 32 (f k.val)) (hb : shape0.BroadcastsInDim shape0 (![] : Fin 0 → Fin 0))
    (h : (shape1 8).ReduceWindows (![8] : Fin 1 → ℕ) ![1] ![7] ![0] (shape1 8)) (hu : 0 < shape0.numel) (k : Fin 8) :
    Host.reduceWindow IntOp.addi ![8] ![1] ![7] ![0] x (broadcastInDim shape0 ![] hb (constantI shape0 32 0#32)) h hu (ix1 k)
      = BitVec.ofNat 32 ((List.range (k.val + 1)).map f).sum :=
  cumsum1 rfl x f hx _ rfl h hu k

section Order

/-- The expert of pick `j`: picks are numbered token by token, two a token. -/
def pick (f : Fin 2048 → Fin 2 → Fin 8) (j : ℕ) : ℕ :=
  (f ⟨j / 2 % 2048, Nat.mod_lt _ (by decide)⟩ ⟨j % 2, Nat.mod_lt _ (by decide)⟩).val

theorem pick_lt (f : Fin 2048 → Fin 2 → Fin 8) (j : ℕ) : pick f j < 8 := Fin.isLt _

/-- The pick at place `p` of the order by expert. -/
noncomputable def sorted (x : IVec (shape1 4096) 32) (p : ℕ) : ℕ := (place (fun k => x (ix1 k)) ⟨p % 4096, Nat.mod_lt _ (by decide)⟩).val

/-- The order by expert is an order. -/
theorem sorted_order (x : IVec (shape1 4096) 32) (f : Fin 2048 → Fin 2 → Fin 8) (hx : ∀ j : Fin 4096, x (ix1 j) = BitVec.ofNat 32 (pick f j.val)) :
    Order (pick f) (sorted x) where
  lt p _ := Fin.isLt _
  inj p hp q hq h := by
    have := congrArg Fin.val (place_injective _ (Fin.ext h))
    simpa [Nat.mod_eq_of_lt hp, Nat.mod_eq_of_lt hq] using this
  surj j hj := by
    obtain ⟨p, hp⟩ := place_surjective (fun k => x (ix1 k)) ⟨j, hj⟩
    refine ⟨p.val, p.isLt, ?_⟩
    unfold sorted
    rw [show (⟨p.val % 4096, Nat.mod_lt _ (by decide)⟩ : Fin 4096) = p from Fin.ext (Nat.mod_eq_of_lt p.isLt), hp]
  mono p q h hq := by
    have hp : p < 4096 := by omega
    have := place_mono (fun k => x (ix1 k)) (fun k => pick f k.val) hx (fun k => (pick_lt f _).trans (by decide))
      (p := ⟨p % 4096, Nat.mod_lt _ (by decide)⟩) (q := ⟨q % 4096, Nat.mod_lt _ (by decide)⟩)
      (by rw [Fin.le_def]; simpa [Nat.mod_eq_of_lt hp, Nat.mod_eq_of_lt hq] using h)
    exact this

/-- A `[2048, 2]` array read as one vector of 4096. -/
theorem flat_at {α : Type} (x : (shape2 2048 2).Idx → α) (h : (shape2 2048 2).ShapeCasts (shape1 4096)) (j : Fin 4096) :
    shapeCast (shape1 4096) x h (ix1 j) = x (ix2 ⟨j.val / 2 % 2048, Nat.mod_lt _ (by decide)⟩ ⟨j.val % 2, Nat.mod_lt _ (by decide)⟩) := by
  refine shapeCast_apply x h _ _ ?_
  rw [Shape.rowMajor_val_two, Shape.rowMajor_val_one]
  show j.val / 2 % 2048 * 2 + j.val % 2 = j.val
  have := j.isLt
  omega

end Order

section Dest

variable {e s : ℕ → ℕ} (H : Order e s)

include H in
/-- The row a pick goes to: its expert's segment, and its place among the expert's picks. -/
theorem dst_at (p : Fin 4096) {a b : BitVec 32} (ha : a = BitVec.ofNat 32 (seg e (e (s p.val)))) (hb : b = BitVec.ofNat 32 (uns e (e (s p.val)))) :
    a + (BitVec.ofNat 32 p.val - b) = BitVec.ofNat 32 (dst e s p.val) := by
  rw [ha, hb, ofNat32_sub (uns_le_place H p.isLt), ← BitVec.ofNat_add]
  rfl

/-- A block's expert word: how many experts' segments end at or before the block's start, at most 7. -/
theorem expert_at (blk : IVec (shape1 40) 32) (hblk : ∀ b : Fin 40, blk (ix1 b) = BitVec.ofNat 32 (b.val * 128)) (t : IVec (shape1 8) 32)
    (ht : ∀ k : Fin 8, t (ix1 k) = BitVec.ofNat 32 (seg e k.val + padded e k.val))
    (h₁ : (shape1 40).BroadcastsInDim (shape2 40 1) (![0] : Fin 1 → Fin (shape2 40 1).rank))
    (h₂ : (shape2 40 1).BroadcastsInDim (shape2 40 8) (![0, 1] : Fin 2 → Fin (shape2 40 8).rank))
    (h₃ : (shape1 8).BroadcastsInDim (shape2 1 8) (![1] : Fin 1 → Fin (shape2 1 8).rank))
    (h₄ : (shape2 1 8).BroadcastsInDim (shape2 40 8) (![0, 1] : Fin 2 → Fin (shape2 40 8).rank)) (hw : 1 < 32)
    (hr : (shape2 40 8).ReducesTo [1] (shape1 40)) (hu : 0 < shape0.numel) (hb : shape0.BroadcastsInDim (shape1 40) (![] : Fin 0 → Fin (shape1 40).rank)) (b : Fin 40) :
    minsi (Host.reduce IntOp.addi (extui 32 (cmpi .sge (broadcastInDim (shape2 40 8) ![0, 1] h₂ (broadcastInDim (shape2 40 1) ![0] h₁ blk))
        (broadcastInDim (shape2 40 8) ![0, 1] h₄ (broadcastInDim (shape2 1 8) ![1] h₃ t))) hw) (constantI shape0 32 0#32) hr hu)
      (broadcastInDim (shape1 40) ![] hb (constantI shape0 32 7#32)) (ix1 b)
      = BitVec.ofNat 32 (min (Nat.count (fun k => seg e k + padded e k ≤ b.val * 128) 8) 7) := by
  have hcount := reduce_count (n := 40) (m := 8) (by decide) (cmpi .sge (broadcastInDim (shape2 40 8) ![0, 1] h₂ (broadcastInDim (shape2 40 1) ![0] h₁ blk))
        (broadcastInDim (shape2 40 8) ![0, 1] h₄ (broadcastInDim (shape2 1 8) ![1] h₃ t))) hw hr hu b (fun k => seg e k + padded e k ≤ b.val * 128) fun q => by
    have hs := seg_lt e (show q.val + 1 ≤ 8 by omega)
    rw [seg_succ] at hs
    rw [cmpi_at, bcRows, bcCols, hblk, ht, cmpi_sge_ofNat (w := 32) (by have := b.isLt; omega) (by omega)]
    by_cases h : seg e q.val + padded e q.val ≤ b.val * 128 <;> simp [h]
  show IntOp.minsi (Host.reduce IntOp.addi _ _ hr hu (ix1 b)) (broadcastInDim (shape1 40) ![] hb (constantI shape0 32 7#32) (ix1 b)) = _
  rw [hcount, bc0, constantI_at]
  have hc : Nat.count (fun k => seg e k + padded e k ≤ b.val * 128) 8 ≤ 8 := Nat.count_le _
  generalize Nat.count (fun k => seg e k + padded e k ≤ b.val * 128) 8 = n at hc
  interval_cases n <;> decide

/-- A block's used word: 1 where the block starts before the end of all segments. -/
theorem used_at (blk : IVec (shape1 40) 32) (hblk : ∀ b : Fin 40, blk (ix1 b) = BitVec.ofNat 32 (b.val * 128)) (x : IVec (shape1 8) 32)
    (hx : ∀ k : Fin 8, x (ix1 k) = BitVec.ofNat 32 (padded e k.val)) (hr : (shape1 8).ReducesTo [0] shape0) (hu : 0 < shape0.numel)
    (hb : shape0.BroadcastsInDim (shape1 40) (![] : Fin 0 → Fin (shape1 40).rank)) (hw : 1 < 32) (b : Fin 40) (hlt : b.val * 128 < seg e 8) :
    extui 32 (cmpi .slt blk (broadcastInDim (shape1 40) ![] hb (Host.reduce IntOp.addi x (constantI shape0 32 0#32) hr hu))) hw (ix1 b) = 1#32 := by
  have hs := seg_lt e (le_refl 8)
  show (cmpi .slt blk (broadcastInDim (shape1 40) ![] hb (Host.reduce IntOp.addi x (constantI shape0 32 0#32) hr hu)) (ix1 b)).setWidth 32 = _
  rw [cmpi_at, bc0, reduce_sum x (padded e) hx hr hu, hblk]
  show (IntOp.cmpi .slt (BitVec.ofNat 32 (b.val * 128)) (BitVec.ofNat 32 (seg e 8))).setWidth 32 = _
  rw [(slt_iff (by omega) (by omega)).2 hlt]
  rfl

end Dest

end Cert.Proof.Plan
-- ==== Proof.KI.HostReads.lean ====
/- What each stretch of host operations leaves, over any contents it starts from. -/
module

public import proofs.«01_k».proof.Proof.Gen.KernelIdeal.Regions
public import proofs.«01_k».proof.Proof.Shared.Plan
public import Idealize.ShloMosaic.Lib.StableHlo.RunRead

@[expose] public section

set_option maxRecDepth 4096

noncomputable section

namespace Cert.Proof.KernelIdeal

open Cert.KernelIdeal Cert.KernelIdeal.Gen
open Idealize.ShloMosaic Idealize.ShloMosaic.TcCoe Idealize.ShloMosaic.StableHlo
open Idealize.ShloMosaic.Routing (pyDiv)
open Cert.Proof.Plan (wrap)

variable {F : FTy → Type} [FloatOps F] (W : Valuation τ sig (Elt F))

/-- The gate's logits: each token against each expert's gate row. -/
abbrev logits (x : Vec F S2048x1024 .f32) (g : Vec F S8x1024 .f32) : Vec F S2048x8 .f32 :=
  Host.dotGeneral dot_S2048x1024_S1024x8_S2048x8_1_0_0_1_n_n none x (transpose S1024x8 [1, 0] g transposes_S8x1024_S1024x8_1_0)

/-- A vector over the tokens, one copy for each expert. -/
abbrev perToken (v : Vec F S2048 .f32) : Vec F S2048x8 .f32 :=
  broadcastInDim S2048x8 ![0, 1] bcast_S2048x1_S2048x8_0_1 (broadcastInDim S2048x1 ![0] bcast_S2048_S2048x1_0 v)

/-- The softmax's numerators over the experts. -/
abbrev numerators (x : Vec F S2048x1024 .f32) (g : Vec F S8x1024 .f32) : Vec F S2048x8 .f32 :=
  Host.exp (subf (logits x g) (perToken (maximumf (broadcastInDim S2048 ![] bcast_S_S2048 (constant S_ .f32 0xFF800000#32))
    (Host.reduce FloatOps.maximumf (logits x g) (constant S_ .f32 0xFF800000#32) reducesTo_S2048x8_S2048_d1 h_S_))))

/-- Each token's softmax over the experts. -/
abbrev scores (x : Vec F S2048x1024 .f32) (g : Vec F S8x1024 .f32) : Vec F S2048x8 .f32 :=
  Host.divf (numerators x g) (perToken (Host.reduceAdd (numerators x g) (constant S_ .f32 0x00000000#32) reducesTo_S2048x8_S2048_d1 h_S_))

/-- The two greatest scores of each token, and their experts. -/
abbrev top (x : Vec F S2048x1024 .f32) (g : Vec F S8x1024 .f32) : Vec F S2048x2 .f32 × IVec S2048x2 32 :=
  Host.topK S2048x2 1 (FloatOps.cmpfTotal .gt) (scores x g) sliceFits_S2048x8_S2048x2

/-- The two greatest scores of each token, scaled to sum to one. -/
abbrev weights (x : Vec F S2048x1024 .f32) (g : Vec F S8x1024 .f32) : Vec F S2048x2 .f32 :=
  Host.divf (top x g).1 (broadcastInDim S2048x2 ![0, 1] bcast_S2048x1_S2048x2_0_1 (broadcastInDim S2048x1 ![0] bcast_S2048_S2048x1_0
    (Host.reduceAdd (top x g).1 (constant S_ .f32 0x00000000#32) reducesTo_S2048x2_S2048_d1 h_S_)))

theorem read_indices : after hostOps0 W main_indices = (top (F := F) (W main_arg0) (W main_arg1)).2 := by
  after_reads_simp

theorem read_v16 : after hostOps0 W main_v16 = weights (F := F) (W main_arg0) (W main_arg1) := by
  after_reads_simp

theorem read_v17 : after hostOps0 W (Proc.devRef .tc main_v17) = shapeCast S4096 (after hostOps0 W (Proc.devRef .tc main_indices)) shapeCasts_S2048x2_S4096 := by
  after_reads_simp
  rfl

theorem read_v18 : after hostOps0_1 W main_v18
    = (Host.sort2 S4096 0 comparator_i32_i32_d0 (W main_v17 : IVec S4096 32) (iotaInDim S4096 32 0)).2 := by
  after_reads_simp
  rfl

theorem read_v25 : after hostOps0_2 W main_v25
    = Host.gather gather_S4096_S4096x1_S4096_n_0_n_n_0_1_1 (W main_v17 : IVec S4096 32)
        (broadcastInDim S4096x1 ![0] bcast_S4096_S4096x1_0 (wrap bcast_S_S4096 4096#32 (W main_v18))) := by
  after_reads_simp

theorem read_v26 : after hostOps0_2 W main_v26 = broadcastInDim S8 ![] bcast_S_S8 (constantI S_ 32 0#32) := by
  after_reads_simp

theorem read_c5 : after hostOps0_2 W main_c_5 = constantI S_ 32 0#32 := by
  after_reads_simp

theorem read_v27 : after hostOps0_3 W main_v27 = maxsi (broadcastInDim S4096 ![] bcast_S_S4096 (W main_c_5 : IVec S_ 32)) (W main_v17) := by
  after_reads_simp
  rfl

theorem read_v35 : after hostOps0_4 W main_v35
    = Host.scatter scatter_S8_S4096x1_S4096_n_0_0_1 IntOp.addi (W main_v26 : IVec S8 32)
        (broadcastInDim S4096x1 ![0] bcast_S4096_S4096x1_0 (wrap bcast_S_S4096 8#32 (W main_v27)))
        (broadcastInDim S4096 ![] bcast_S_S4096 (constantI S_ 32 1#32)) := by
  after_reads_simp

theorem read_v39 : after hostOps0_4 W main_v39
    = subi (addi (after hostOps0_4 W main_v35 : IVec S8 32) (broadcastInDim S8 ![] bcast_S_S8 (constantI S_ 32 128#32)))
        (broadcastInDim S8 ![] bcast_S_S8 (constantI S_ 32 1#32)) := by
  after_reads_simp

theorem read_c11 : after hostOps0_4 W main_c_11 = constantI S_ 32 128#32 := by
  after_reads_simp

theorem read_v40 : after hostOps0_5 W main_v40 = pyDiv bcast_S_S8 (W main_v39 : IVec S8 32) (W main_c_11) := by
  after_reads_simp
  rfl

theorem read_v42 : after hostOps0_6 W main_v42 = muli (W main_v40 : IVec S8 32) (broadcastInDim S8 ![] bcast_S_S8 (constantI S_ 32 128#32)) := by
  after_reads_simp

theorem read_v43 : after hostOps0_6 W main_v43 = broadcastInDim S1 ![] bcast_S_S1 (constantI S_ 32 0#32) := by
  after_reads_simp

theorem read_v44 : after hostOps0_7 W main_v44
    = Host.reduceWindow IntOp.addi ![8] ![1] ![7] ![0] (W main_v42 : IVec S8 32) (broadcastInDim S_ ![] bcast_S_S_ (constantI S_ 32 0#32))
        reduceWindows_S8_S8_w8s1p7_0 h_S_ := by
  after_reads_simp
  simp -implicitDefEqProofs only [TRef.ofBuf_toBuf, TRef.toBuf, TRef.ofBuf, cast_eq]

theorem read_v46 : after hostOps0_8 W main_v46
    = concatenate S8 0 [⟨S1, (W main_v43 : IVec S1 32)⟩, ⟨S7, extractStridedSlice S7 ![0] (W main_v44 : IVec S8 32) slices_S8_S7_0⟩] concatenates_S1_S7_S8_d0 := by
  after_reads_simp
  rfl

theorem read_v47 : after hostOps0_8 W main_v47 = broadcastInDim S1 ![] bcast_S_S1 (constantI S_ 32 0#32) := by
  after_reads_simp

theorem read_v48 : after hostOps0_9 W main_v48
    = Host.reduceWindow IntOp.addi ![8] ![1] ![7] ![0] (W main_v35 : IVec S8 32) (broadcastInDim S_ ![] bcast_S_S_ (constantI S_ 32 0#32))
        reduceWindows_S8_S8_w8s1p7_0 h_S_ := by
  after_reads_simp
  simp -implicitDefEqProofs only [TRef.ofBuf_toBuf, TRef.toBuf, TRef.ofBuf, cast_eq]

theorem read_v50 : after hostOps0_10 W main_v50
    = concatenate S8 0 [⟨S1, (W main_v47 : IVec S1 32)⟩, ⟨S7, extractStridedSlice S7 ![0] (W main_v48 : IVec S8 32) slices_S8_S7_0⟩] concatenates_S1_S7_S8_d0 := by
  after_reads_simp
  rfl

theorem read_v67 : after hostOps0_10 W main_v67
    = addi (Host.gather gather_S8_S4096x1_S4096_n_0_n_n_0_1_1 (W main_v46 : IVec S8 32)
          (broadcastInDim S4096x1 ![0] bcast_S4096_S4096x1_0 (wrap bcast_S_S4096 8#32 (W main_v25))))
        (subi (iotaInDim S4096 32 0) (Host.gather gather_S8_S4096x1_S4096_n_0_n_n_0_1_1 (after hostOps0_10 W main_v50 : IVec S8 32)
          (broadcastInDim S4096x1 ![0] bcast_S4096_S4096x1_0 (wrap bcast_S_S4096 8#32 (W main_v25))))) := by
  after_reads_simp

theorem read_v68 : after hostOps0_10 W main_v68 = broadcastInDim S5120 ![] bcast_S_S5120 (constantI S_ 32 0#32) := by
  after_reads_simp

theorem read_c20 : after hostOps0_10 W main_c_20 = constantI S_ 32 2#32 := by
  after_reads_simp

theorem read_v69 : after hostOps0_11 W main_v69 = pyDiv bcast_S_S4096 (W main_v18 : IVec S4096 32) (W main_c_20) := by
  after_reads_simp
  rfl

theorem read_v76 : after hostOps0_12 W main_v76
    = Host.scatter scatter_S5120_S4096x1_S4096_n_0_0_1 (fun _ b => b) (W main_v68 : IVec S5120 32)
        (broadcastInDim S4096x1 ![0] bcast_S4096_S4096x1_0 (wrap bcast_S_S4096 5120#32 (W main_v67))) (W main_v69) := by
  after_reads_simp
  rfl

/-- The block starts: 128 times the block's number. -/
abbrev blockStarts : IVec S40 32 := muli (iotaInDim S40 32 0) (broadcastInDim S40 ![] bcast_S_S40 (constantI S_ 32 128#32))

theorem read_v96 : after hostOps0_12 W main_v96
    = concatenate S40x2 1 [
        ⟨S40x1, broadcastInDim S40x1 ![0] bcast_S40_S40x1_0 (minsi (Host.reduce IntOp.addi (extui 32 (cmpi .sge
            (broadcastInDim S40x8 ![0, 1] bcast_S40x1_S40x8_0_1 (broadcastInDim S40x1 ![0] bcast_S40_S40x1_0 blockStarts))
            (broadcastInDim S40x8 ![0, 1] bcast_S1x8_S40x8_0_1 (broadcastInDim S1x8 ![1] bcast_S8_S1x8_1 (addi (W main_v46 : IVec S8 32) (W main_v42)))))
            natLt_1_32) (constantI S_ 32 0#32) reducesTo_S40x8_S40_d1 h_S_) (broadcastInDim S40 ![] bcast_S_S40 (constantI S_ 32 7#32)))⟩,
        ⟨S40x1, broadcastInDim S40x1 ![0] bcast_S40_S40x1_0 (extui 32 (cmpi .slt blockStarts (broadcastInDim S40 ![] bcast_S_S40
            (Host.reduce IntOp.addi (W main_v42 : IVec S8 32) (constantI S_ 32 0#32) reducesTo_S8_S_d0 h_S_))) natLt_1_32)⟩]
        concatenates_S40x1_S40x1_S40x2_d1 := by
  after_reads_simp
  rfl

theorem read_v104 : after hostOps0_12 W main_v104
    = Host.scatter scatter_S4096_S4096x1_S4096_n_0_0_1 (fun _ b => b) (broadcastInDim S4096 ![] bcast_S_S4096 (constantI S_ 32 0#32) : IVec S4096 32)
        (broadcastInDim S4096x1 ![0] bcast_S4096_S4096x1_0 (wrap bcast_S_S4096 4096#32 (W main_v18))) (W main_v67) := by
  after_reads_simp

theorem read_v111 : after hostOps0_12 W main_v111
    = Host.gather gather_S2048x1024_S5120x1_S5120x1024_1_0_n_n_0_1_11024 (W main_arg0 : Vec F S2048x1024 .f32)
        (broadcastInDim S5120x1 ![0] bcast_S5120_S5120x1_0 (wrap bcast_S_S5120 2048#32 (after hostOps0_12 W main_v76))) := by
  after_reads_simp

end Cert.Proof.KernelIdeal
end
-- ==== Proof.KI.Body.lean ====
/- The two kernel bodies of the idealized program, run once at symbolic grid points: what each leaves in its result's
   staging buffer, as a function of the blocks and table words it reads. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Tactic
public import Idealize.ShloMosaic.Lib.VecWindow
public import Idealize.ShloMosaic.Lib.Routing.Ops

@[expose] public section

noncomputable section

namespace Cert.Proof.KernelIdeal

open Cert.KernelIdeal Cert.KernelIdeal.Gen
open Idealize.ShloMosaic Idealize.ShloMosaic.TcCoe Idealize.ShloMosaic.Tactic
open Idealize.ShloMosaic.Routing Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU : Type := UR sig nD τ
abbrev 𝒱₀ : Variants := Variants.none

local notation "𝕄" => MT nD τ sig Unit (Elt F) ℕ UU ℕ

/-- What memref `M`'s buffer on core `c` holds. -/
abbrev Bf (c : Dev nD) {sp : Space} {S : Shape} {e : EltTy} (M : Memref sig .tc sp S e) : Type := Buf (Elt F) (M.view.loc (c : Thread nD τ))
/-- Memref `M`'s buffer on core `c`, held whole at `f`. -/
abbrev pt (c : Dev nD) {sp : Space} {S : Shape} {e : EltTy} (M : Memref sig .tc sp S e) (f : Bf (F := F) c M) : sProp 𝕄 :=
  M.view.loc (c : Thread nD τ) ↦{fullShare} f

/-! ## One grid step of the feed-forward kernel -/

/-- What one grid step leaves in its result block, from the block `o` it found there, the table word `v`, and the
    blocks of the rows, the gate weights, the up weights and the down weights: cleared first at the first step of a
    row block, then the step's product added when the row block is used. -/
def ffnStep (i : grid0.Coords) (v : BitVec 32) (x : Vec F S128x1024 .f32) (g u : Vec F S1x512x1024 .f32)
    (d : Vec F S1x1024x512 .f32) (o : Vec F S128x1024 .f32) : Vec F S128x1024 .f32 :=
  if k0_cond2 v = 1#1 then k0_pay2 x g u d (if k0_cond1 i = 1#1 then k0_pay1 else o)
  else if k0_cond1 i = 1#1 then k0_pay1 else o

/-- A function of five arguments at equal arguments. -/
theorem congrArg₅ {A B C D E G : Type} (f : A → B → C → D → E → G) {a a' : A} {b b' : B} {c c' : C} {d d' : D} {e e' : E}
    (ha : a = a') (hb : b = b') (hc : c = c') (hd : d = d') (he : e = e') : f a b c d e = f a' b' c' d' e' := by
  subst ha hb hc hd he; rfl

section Ffn
variable (c : Dev nD) (i : grid0.Coords) (M2 : Memref sig .tc .smem S40x2 .i32) (h2 : M2.IsWhole)
  (M3 : Memref sig .tc .vmem S128x1024 .f32) (h3 : M3.IsWhole) (M4 : Memref sig .tc .vmem S1x512x1024 .f32) (h4 : M4.IsWhole)
  (M5 : Memref sig .tc .vmem S1x512x1024 .f32) (h5 : M5.IsWhole) (M6 : Memref sig .tc .vmem S1x1024x512 .f32) (h6 : M6.IsWhole)
  (M7 : Memref sig .tc .vmem S128x1024 .f32) (h7 : M7.IsWhole)
  (f2 : Bf (F := F) c M2) (f3 : Bf (F := F) c M3) (f4 : Bf (F := F) c M4) (f5 : Bf (F := F) c M5) (f6 : Bf (F := F) c M6) (f7 : Bf (F := F) c M7)

/-- The table word a grid step reads: whether its row block is used. -/
def usedWord : BitVec 32 :=
  M2.view.readAt (Elt F) (Rect.unit (s := S40x2) (k0_off2 i) S1x1.size (k0_off2_inb i)).toLoadRect f2
    (Shape.Idx.first (s := S1x1) (numel1_S1x1.symm ▸ Nat.one_pos))

/-- One grid step of the feed-forward kernel, run from its five staging buffers and its table: all but the result's
    are handed back as they were, and the result's holds `ffnStep` of what they hold. -/
theorem ffn_run (E : Set ℕ) (Q : PUnit → sProp 𝕄) :
    iprop(pt c M2 f2 ∗ pt c M3 f3 ∗ pt c M4 f4 ∗ pt c M5 f5 ∗ pt c M6 f6 ∗ pt c M7 f7 ∗
        (iprop(pt c M2 f2 ∗ pt c M3 f3 ∗ pt c M4 f4 ∗ pt c M5 f5 ∗ pt c M6 f6 ∗
          ∃ W : Bf (F := F) c M7, ⌜M7.view.read (Elt F) W = ffnStep i (usedWord c i M2 f2) (M3.view.read (Elt F) f3) (M4.view.read (Elt F) f4)
              (M5.view.read (Elt F) f5) (M6.view.read (Elt F) f6) (M7.view.read (Elt F) f7)⌝ ∗ pt c M7 W) -∗ Q ⟨⟩))
      ⊢ wp frame (wpE (defs₀ (F := F)) 𝒱₀ c none) E (cc0__ffn_body i M2 h2 M3 h3 M4 h4 M5 h5 M6 h6 M7 h7) Q := by
  rw [cc0__ffn_body_eq_skeleton]
  unfold cc0__ffn_body_skel
  by_cases hc1 : k0_cond1 i = 1#1 <;> by_cases hc2 : k0_cond2 (usedWord c i M2 f2) = 1#1
  all_goals
    iintro ⟨H2, H3, H4, H5, H6, H7, Hk⟩
    sl_exec (disch := first | exact hc1 | exact hc2)
    sl_step
    iapply Hk
    isplitl [H2]; · iexact H2
    isplitl [H3]; · iexact H3
    isplitl [H4]; · iexact H4
    isplitl [H5]; · iexact H5
    isplitl [H6]; · iexact H6
    iexists _
    isplitr; swap; · iexact H7
    ipureintro
    simp only [ffnStep, hc1, hc2]
    first
      | rfl
      | (refine (View.read_writes_full M7.view f7 inb_S128x1024_S128x1024_0_0 _ _).trans ?_
         first
          | rfl
          | (rw [if_pos trivial]
             refine congrArg₅ k0_pay2 (View.readAt_full _ _ _) (View.readAt_full _ _ _) (View.readAt_full _ _ _) (View.readAt_full _ _ _) ?_
             first
              | exact View.readAt_full _ _ _
              | exact View.readCov_full M7.view inb_S128x1024_S128x1024_0_0 inb_S128x1024_S128x1024_0_0 _ _))
end Ffn

/-! ## One grid step of the combining kernel -/

theorem trips_eq : k1_t1_loop.trips = 256 := by decide +kernel
theorem off7_eq : ∀ k : Fin k1_t1_loop.trips, k1_off7 k = ![k.val, 0] := by decide +kernel
theorem off3_eq : ∀ k : Fin k1_t1_loop.trips, k1_off3 k = ![k.val, 0] := by decide +kernel
theorem off5_eq : ∀ k : Fin k1_t1_loop.trips, k1_off5 k = ![k.val, 1] := by decide +kernel
theorem off1_eq : ∀ (i : grid1.Coords) (k : Fin k1_t1_loop.trips), k1_off1 i k = ![2 * (256 * (i 0).val + k.val)] := by decide +kernel
theorem off2_eq : ∀ (i : grid1.Coords) (k : Fin k1_t1_loop.trips), k1_off2 i k = ![2 * (256 * (i 0).val + k.val) + 1] := by decide +kernel
theorem off4_eq (v : BitVec 32) : k1_off4 v = ![v.toNat, 0] := rfl
theorem off6_eq (v : BitVec 32) : k1_off6 v = ![v.toNat, 0] := rfl

/-- Row `n` of the feed-forward result, for `n` a row number. -/
def rowOf (n : ℕ) : Fin 5120 := ⟨n % 5120, Nat.mod_lt _ (by decide)⟩

/-- Place `n` of the table of rows. -/
def wordAt (n : ℕ) : Fin 4096 := ⟨n % 4096, Nat.mod_lt _ (by decide)⟩

/-- What one grid step of the combining kernel leaves at row `r`, column `j` of its result block: the two named rows of
    the feed-forward result, each times its weight, added. -/
def combAt (i : grid1.Coords) (pos : Vec F S4096 .i32) (w : Vec F S256x2 .f32) (y : Vec F S5120x1024 .f32) (z : S256x1024.Idx) : F .f32 :=
  FloatOps.addf (FloatOps.mulf (w (ix2 (z 0) 0)) (y (ix2 (rowOf (pos (ix1 (wordAt (2 * (256 * (i 0).val + (z 0).val))))).toNat) (z 1))))
    (FloatOps.mulf (w (ix2 (z 0) 1)) (y (ix2 (rowOf (pos (ix1 (wordAt (2 * (256 * (i 0).val + (z 0).val) + 1)))).toNat) (z 1))))

section Combine
variable (c : Dev nD) (i : grid1.Coords) (M1 : Memref sig .tc .smem S4096 .i32) (h1 : M1.IsWhole)
  (M2 : Memref sig .tc .vmem S256x2 .f32) (h2 : M2.IsWhole) (M3 : Memref sig .tc .vmem S5120x1024 .f32) (h3 : M3.IsWhole)
  (M4 : Memref sig .tc .vmem S256x1024 .f32) (h4 : M4.IsWhole)
  (f1 : Bf (F := F) c M1) (f2 : Bf (F := F) c M2) (f3 : Bf (F := F) c M3)

/-- Every word of the table of rows names a row. -/
def PosOk : Prop := ∀ x, (M1.view.read (Elt F) f1 x : BitVec 32).toNat < 5120

/-- A word below the number of rows names a row of the feed-forward result. -/
theorem chk_of_lt {v : BitVec 32} (h : v.toNat < 5120) : ∀ a, (![v.toNat, 0] : Fin 2 → ℕ) a + S1x1024.size a ≤ S5120x1024.size a := by
  intro a
  match a with
  | 0 => show v.toNat + 1 ≤ 5120; omega
  | 1 => show 0 + 1024 ≤ 1024; omega

/-- The word of the table of rows at the place a trip reads first. -/
theorem word1 (k : Fin k1_t1_loop.trips) (x) (n : ℕ) (hn : n = 2 * (256 * (i 0).val + k.val)) :
    M1.view.readAt (Elt F) (Rect.unit (s := S4096) (k1_off1 i k) S1.size (k1_off1_inb i k)).toLoadRect f1 x
      = M1.view.read (Elt F) f1 (ix1 (wordAt (n))) := by
  refine congrArg (M1.view.read (Elt F) f1) (funext fun a => Fin.ext ?_)
  have hi : (i 0).val < 8 := (i 0).isLt
  have hk : k.val < 256 := trips_eq ▸ k.isLt
  have hx : (x 0).val < 1 := (x 0).isLt
  match a with
  | 0 =>
    show k1_off1 i k 0 + 1 * (x 0).val = n % 4096
    have e : k1_off1 i k 0 = 2 * (256 * (i 0).val + k.val) := congrFun (off1_eq i k) 0
    omega

/-- The word of the table of rows at the place a trip reads second. -/
theorem word2 (k : Fin k1_t1_loop.trips) (x) (n : ℕ) (hn : n = 2 * (256 * (i 0).val + k.val) + 1) :
    M1.view.readAt (Elt F) (Rect.unit (s := S4096) (k1_off2 i k) S1.size (k1_off2_inb i k)).toLoadRect f1 x
      = M1.view.read (Elt F) f1 (ix1 (wordAt (n))) := by
  refine congrArg (M1.view.read (Elt F) f1) (funext fun a => Fin.ext ?_)
  have hi : (i 0).val < 8 := (i 0).isLt
  have hk : k.val < 256 := trips_eq ▸ k.isLt
  have hx : (x 0).val < 1 := (x 0).isLt
  match a with
  | 0 =>
    show k1_off2 i k 0 + 1 * (x 0).val = n % 4096
    have e : k1_off2 i k 0 = 2 * (256 * (i 0).val + k.val) + 1 := congrFun (off2_eq i k) 0
    omega

/-- The row a trip stores, at a column. -/
theorem pay_eq (hp : PosOk c M1 f1) (k : Fin k1_t1_loop.trips) (v v' : BitVec 32) (hv : k1_chk1 v) (hv' : k1_chk2 v')
    (e1 : v = M1.view.read (Elt F) f1 (ix1 (wordAt (2 * (256 * (i 0).val + k.val)))))
    (e2 : v' = M1.view.read (Elt F) f1 (ix1 (wordAt (2 * (256 * (i 0).val + k.val) + 1))))
    (z : S256x1024.Idx) (hz : (z 0).val = k.val) :
    k1_pay1 (M2.view.readAt (Elt F) (Rect.unit (s := S256x2) (k1_off3 k) S1x1.size (k1_off3_inb k)).toLoadRect f2)
        (M3.view.readAt (Elt F) (Rect.unit (s := S5120x1024) (k1_off4 v) S1x1024.size (k1_off4_inb v hv)).toLoadRect f3)
        (M2.view.readAt (Elt F) (Rect.unit (s := S256x2) (k1_off5 k) S1x1.size (k1_off5_inb k)).toLoadRect f2)
        (M3.view.readAt (Elt F) (Rect.unit (s := S5120x1024) (k1_off6 v') S1x1024.size (k1_off6_inb v' hv')).toLoadRect f3)
        (ix2 (n0 := 1) (n1 := 1024) 0 (z 1))
      = combAt i (M1.view.read (Elt F) f1) (M2.view.read (Elt F) f2) (M3.view.read (Elt F) f3) z := by
  have hk : k.val < 256 := trips_eq ▸ k.isLt
  have hl : v.toNat < 5120 := e1 ▸ hp _
  have hl' : v'.toNat < 5120 := e2 ▸ hp _
  unfold k1_pay1
  rw [cast12 (a := 1) (b := 1024) (n := 1024) _ _ 0 (z 1) (z 1) (by simp)]
  unfold combAt
  refine congrArg₂ FloatOps.addf (congrArg₂ FloatOps.mulf ?_ ?_) (congrArg₂ FloatOps.mulf ?_ ?_)
  · refine congrArg (M2.view.read (Elt F) f2) (funext fun a => Fin.ext ?_)
    match a with
    | 0 =>
      have e : k1_off3 k 0 = k.val := congrFun (off3_eq k) 0
      show k1_off3 k 0 + 1 * 0 = (z 0).val; omega
    | 1 =>
      have e : k1_off3 k 1 = 0 := congrFun (off3_eq k) 1
      show k1_off3 k 1 + 1 * 0 = 0; omega
  · rw [cast21 (a := 1) (b := 1024) (n := 1024) _ _ 0 (z 1) (z 1) (by simp)]
    refine congrArg (M3.view.read (Elt F) f3) (funext fun a => Fin.ext ?_)
    match a with
    | 0 =>
      rw [← hz] at e1
      show v.toNat + 1 * 0 = (M1.view.read (Elt F) f1 (ix1 (wordAt (2 * (256 * (i 0).val + (z 0).val)))) : BitVec 32).toNat % 5120
      rw [← e1]; omega
    | 1 => show 0 + 1 * (z 1).val = (z 1).val; omega
  · refine congrArg (M2.view.read (Elt F) f2) (funext fun a => Fin.ext ?_)
    match a with
    | 0 =>
      have e : k1_off5 k 0 = k.val := congrFun (off5_eq k) 0
      show k1_off5 k 0 + 1 * 0 = (z 0).val; omega
    | 1 =>
      have e : k1_off5 k 1 = 1 := congrFun (off5_eq k) 1
      show k1_off5 k 1 + 1 * 0 = 1; omega
  · rw [cast21 (a := 1) (b := 1024) (n := 1024) _ _ 0 (z 1) (z 1) (by simp)]
    refine congrArg (M3.view.read (Elt F) f3) (funext fun a => Fin.ext ?_)
    match a with
    | 0 =>
      rw [← hz] at e2
      show v'.toNat + 1 * 0 = (M1.view.read (Elt F) f1 (ix1 (wordAt (2 * (256 * (i 0).val + (z 0).val) + 1))) : BitVec 32).toNat % 5120
      rw [← e2]; omega
    | 1 => show 0 + 1 * (z 1).val = (z 1).val; omega

set_option warn.classDefReducibility false in
/-- The combining loop's invariant: before trip `k` the rows before `k` are done. -/
@[sl_loop] noncomputable def combLoop (hp : PosOk c M1 f1) :
    LoopInvTy_k1_t1 (F := F) Unit ℕ UU ℕ 𝒱₀ c none Set.univ i M1 h1 M2 h2 M3 h3 M4 h4 where
  inv := fun k _ => iprop(pt c M1 f1 ∗ pt c M2 f2 ∗ pt c M3 f3 ∗ ∃ f : Bf (F := F) c M4,
    ⌜∀ z : S256x1024.Idx, (z 0).val < k → M4.view.read (Elt F) f z = combAt i (M1.view.read (Elt F) f1) (M2.view.read (Elt F) f2) (M3.view.read (Elt F) f3) z⌝ ∗ pt c M4 f)
  step := fun k _ => by
    have hk1 : ∀ x, k1_chk1 (M1.view.readAt (Elt F) (Rect.unit (s := S4096) (k1_off1 i k) S1.size (k1_off1_inb i k)).toLoadRect f1 x) :=
      fun x => chk_of_lt (hp _)
    have hk2 : ∀ x, k1_chk2 (M1.view.readAt (Elt F) (Rect.unit (s := S4096) (k1_off2 i k) S1.size (k1_off2_inb i k)).toLoadRect f1 x) :=
      fun x => chk_of_lt (hp _)
    unfold k1_t1_body
    iintro ⟨H1, H2, H3, ⟨%f, %hf, H4⟩⟩
    sl_exec (disch := first | exact hk1 _ | exact hk2 _)
    sl_step
    isplitl [H1]; · iexact H1
    isplitl [H2]; · iexact H2
    isplitl [H3]; · iexact H3
    iexists _
    isplitr; swap; · iexact H4
    ipureintro
    intro z hz
    by_cases h : (z 0).val = k.val
    · refine (View.read_writes_cons_unit_of_mem M4.view f (k1_off7_inb k) _ [] z (ix2 (n0 := 1) (n1 := 1024) 0 (z 1)) (off7_eq k) ?_).trans ?_
      · intro a
        match a with
        | 0 => show (z 0).val = k.val + 0; omega
        | 1 => show (z 1).val = 0 + (z 1).val; omega
      · exact pay_eq c i M1 M2 M3 f1 f2 f3 hp k _ _ (hk1 _) (hk2 _) (word1 c i M1 f1 k _ _ rfl) (word2 c i M1 f1 k _ _ rfl) z h
    · refine (View.read_writes_cons_unit_of_not_mem M4.view f (k1_off7_inb k) _ [] z (off7_eq k) 0 ?_).trans ?_
      · left; show (z 0).val < k.val; omega
      · exact hf z (by omega)

/-- One grid step of the combining kernel, run from its table, its weights, the feed-forward result and its result's
    staging buffer: all but the last are handed back as they were, the last holding `combAt` of them. -/
theorem comb_run (hp : PosOk c M1 f1) (f4 : Bf (F := F) c M4) (Q : PUnit → sProp 𝕄) :
    iprop(pt c M1 f1 ∗ pt c M2 f2 ∗ pt c M3 f3 ∗ pt c M4 f4 ∗
        (iprop(pt c M1 f1 ∗ pt c M2 f2 ∗ pt c M3 f3 ∗
          ∃ W : Bf (F := F) c M4, ⌜M4.view.read (Elt F) W = combAt i (M1.view.read (Elt F) f1) (M2.view.read (Elt F) f2) (M3.view.read (Elt F) f3)⌝ ∗ pt c M4 W) -∗ Q ⟨⟩))
      ⊢ wp frame (wpE (defs₀ (F := F)) 𝒱₀ c none) Set.univ (cc1__combine_body i M1 h1 M2 h2 M3 h3 M4 h4) Q := by
  rw [cc1__combine_body_eq_skeleton]
  unfold cc1__combine_body_skel
  iintro ⟨H1, H2, H3, H4, Hk⟩
  sl_exec
  sl_step
  iapply Hk
  isplitl [H1]; · iexact H1
  isplitl [H2]; · iexact H2
  isplitl [H3]; · iexact H3
  iexists _
  isplitr; swap; · iexact H4
  ipureintro
  exact funext fun z => hL3 z (lt_of_lt_of_eq (z 0).isLt trips_eq.symm)
end Combine

end Cert.Proof.KernelIdeal

end
-- ==== Proof.KI.Region.lean ====
/- The two kernel launches of the idealized program as regions over the thread state: their proof data at the entry
   valuations, and the body obligations. -/
module

public import proofs.«01_k».proof.Proof.KI.Body
public import proofs.«01_k».proof.Proof.Gen.KernelIdeal.Regions
public import Idealize.ShloMosaic.Lib.Pipeline.RegionArraysTS
public import Idealize.ShloMosaic.Lib.Pipeline.TableIdle
public import Idealize.ShloMosaic.Lib.Pipeline.FrameBody

@[expose] public section

noncomputable section

namespace Cert.Proof.KernelIdeal

open Cert.KernelIdeal Cert.KernelIdeal.Gen
open Idealize.ShloMosaic Idealize.ShloMosaic.TcCoe Idealize.ShloMosaic.Tactic
open Idealize.ShloMosaic.Routing Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Every staging cell has the one index assigned, on the TensorCores. -/
abbrev L : GSem nD τ sig → Finset Unit := fun g => if g.1.2 = .tc then Finset.univ else ∅
/-- Every level is zero. -/
abbrev lv : GSem nD τ sig → Unit → ℕ := fun _ _ => 0

/-- Owning a whole buffer at contents is holding it at some contents that read so. -/
theorem own_whole (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns
  rw [h.set_eq_univ]

/-! ## The grouped feed-forward region -/

section R0
variable (a : (pcfg0 (F := F)).Adm) (W : Dev nD → Valuation τ sig (Elt F))

/-- The block of window `w`'s array at a grid point, the arrays at the entry valuation. -/
def blk0 (c : Dev nD) (w : Fin 5) (t : Fin grid0.N) : ((cfg0 a).win w).block.Idx → Elt F ((cfg0 a).win w).elt :=
  (((cfg0 a).win w).blk t).view.read (Elt F) (W c (Proc.devRef .tc (Pipeline.arrRef spec0 w)))

/-- What a grid point leaves in the result's staging buffer, from what it finds there. -/
def step0 (c : Dev nD) (t : Fin grid0.N) (o : Vec F S128x1024 .f32) : Vec F S128x1024 .f32 :=
  ffnStep (grid0.coords t) (usedWord (F := F) c (grid0.coords t) (Memref.whole main_v96) (a.1 0))
    (blk0 a W c 0 t) (blk0 a W c 1 t) (blk0 a W c 2 t) (blk0 a W c 3 t) o

/-- What the result's staging buffer holds after grid point `n`: the steps up to it, one after another. -/
def acc0 (c : Dev nD) : (n : ℕ) → n < grid0.N → Vec F S128x1024 .f32
  | 0, h => step0 a W c ⟨0, h⟩ k0_pay1
  | n + 1, h => step0 a W c ⟨n + 1, h⟩ (acc0 c n (Nat.lt_of_succ_lt h))

/-- The invariant between grid points: the buffers no window stages, and the table. -/
abbrev Φ0 (c : Dev nD) : sProp 𝕄 :=
  iprop(Pipeline.scopedRest (Ix := Unit) (Name := ℕ) (U := UU) (Lvl := ℕ) (Val := Elt F) spec0 c ∗ Pipeline.prefHeld pre0 c (fun _ => fullShare) a.1)

/-- The region's proof data. -/
def dat0 (c : Dev nD) : Dat τ (Elt F) Unit ℕ UU ℕ (cfg0 a) c where
  A w := W c (Proc.devRef .tc (Pipeline.arrRef spec0 w))
  after w t := match w with
    | ⟨0, _⟩ => blk0 a W c 0 t
    | ⟨1, _⟩ => blk0 a W c 1 t
    | ⟨2, _⟩ => blk0 a W c 2 t
    | ⟨3, _⟩ => blk0 a W c 3 t
    | ⟨4, _⟩ => acc0 a W c t.val t.isLt
  Φ _ := Φ0 a c
  q _ := fullShare
  owed _ := 0

theorem before0_in0 (c : Dev nD) (t : Fin grid0.N) (d) : (dat0 a W c).before 0 t d = blk0 a W c 0 t :=
  Dat.before_in_eq_fetched (dat0 a W c) 0 rfl (fun _ => rfl) (fun _ _ _ => rfl) (fun _ => rfl) t d
theorem before0_in1 (c : Dev nD) (t : Fin grid0.N) (d) : (dat0 a W c).before 1 t d = blk0 a W c 1 t :=
  Dat.before_in_eq_fetched (dat0 a W c) 1 rfl (fun _ => rfl) (fun _ _ _ => rfl) (fun _ => rfl) t d
theorem before0_in2 (c : Dev nD) (t : Fin grid0.N) (d) : (dat0 a W c).before 2 t d = blk0 a W c 2 t :=
  Dat.before_in_eq_fetched (dat0 a W c) 2 rfl (fun _ => rfl) (fun _ _ _ => rfl) (fun _ => rfl) t d
theorem before0_in3 (c : Dev nD) (t : Fin grid0.N) (d) : (dat0 a W c).before 3 t d = blk0 a W c 3 t :=
  Dat.before_in_eq_fetched (dat0 a W c) 3 rfl (fun _ => rfl) (fun _ _ _ => rfl) (fun _ => rfl) t d

theorem flush0_map : ∀ t : Fin grid0.N, (decide (t.val + 1 = grid0.N) || decide (∃ h : t.val + 1 < grid0.N,
    ∃ b, cc0_transform_4 (grid0.coords ⟨t.val + 1, h⟩) b ≠ cc0_transform_4 (grid0.coords t) b)) = decide (t.val % 4 = 3) := by decide +kernel

/-- The result's buffer is written back exactly at the last step of each row block. -/
theorem flush0 (t : Fin grid0.N) : ((cfg0 a).win 4).flush t = decide (t.val % 4 = 3) := by
  rw [Pipeline.Window.flush_eq_flushF]
  exact flush0_map t

theorem cond1_iff : ∀ t : Fin grid0.N, k0_cond1 (grid0.coords t) = 1#1 ↔ t.val % 4 = 0 := by decide +kernel

theorem usedWord_eq (c : Dev nD) (i : grid0.Coords) : usedWord (F := F) c i (Memref.whole main_v96) (a.1 0) = a.1.atD 0 (k0_off2 i) := by
  have h : ∀ b : Fin 2, k0_off2 i b + 1 ≤ S40x2.size b := fun b => by
    match b with
    | 0 => exact k0_off2_inb i 0
    | 1 => exact k0_off2_inb i 1
  refine Eq.trans ?_ (dif_pos h).symm
  show a.1 0 _ = a.1 0 _
  congr 1

/-- The result's buffer is fresh exactly at the first step of each row block. -/
theorem fresh0 (n : ℕ) (h : n ≤ grid0.N) : (cfg0 a).fresh 4 n = decide (n % 4 = 0) := by
  refine Cfg.fresh_tab (cfg0 a) 4 (fun n => decide (n % 4 = 0)) rfl (fun t => ?_) n h
  have hi : t.val % 4 = 0 → (cfg0 a).idle 4 (grid0.coords t) = false := fun h0 => by
    show (!(k0_cond1 (grid0.coords t) == 1#1) && _) = false
    rw [(cond1_iff t).mpr h0]; rfl
  show decide ((t.val + 1) % 4 = 0) = (((cfg0 a).win 4).flush t || ((cfg0 a).idle 4 (grid0.coords t) && decide (t.val % 4 = 0)))
  rw [flush0 a t]
  by_cases h0 : t.val % 4 = 0
  · rw [hi h0, Bool.false_and, Bool.or_false]
    exact decide_eq_decide.mpr (by omega)
  · rw [decide_eq_false h0, Bool.and_false, Bool.or_false]
    exact decide_eq_decide.mpr (by omega)

/-- An idle step leaves the result's block as it found it. -/
theorem step0_idle (c : Dev nD) (t : Fin grid0.N) (h : (cfg0 a).idle 4 (grid0.coords t) = true) (o) : step0 a W c t o = o := by
  have h' : (!(k0_cond1 (grid0.coords t) == 1#1) && !(k0_cond2 (a.1.atD 0 (k0_off2 (grid0.coords t))) == 1#1)) = true := h
  rw [← usedWord_eq a c, Bool.and_eq_true, Bool.not_eq_true', Bool.not_eq_true', beq_eq_false_iff_ne, beq_eq_false_iff_ne] at h'
  unfold step0 ffnStep
  rw [if_neg h'.2, if_neg h'.1]

/-- The first step of a row block does not depend on what it finds. -/
theorem step0_reset (c : Dev nD) (t : Fin grid0.N) (h : t.val % 4 = 0) (o o') : step0 a W c t o = step0 a W c t o' := by
  unfold step0 ffnStep
  simp only [(cond1_iff t).mpr h, if_true]

theorem acc0_succ (c : Dev nD) (t : Fin grid0.N) (h : t.val ≠ 0) :
    acc0 a W c t.val t.isLt = step0 a W c t (acc0 a W c (t.val - 1) (Nat.lt_of_le_of_lt (Nat.sub_le _ _) t.isLt)) := by
  obtain ⟨n, hn⟩ := t
  cases n with
  | zero => exact absurd rfl h
  | succ n => rfl

/-- What a step finds in the result's buffer, put through the step, is what the proof data says the step leaves. -/
theorem step0_before (c : Dev nD) (t : Fin grid0.N) (d) : step0 a W c t ((dat0 a W c).before 4 t d) = (dat0 a W c).after 4 t := by
  show _ = acc0 a W c t.val t.isLt
  have hb := Dat.before_out_traj (dat0 a W c) 4 rfl (fun _ _ => rfl) (fun t ht hi hf =>
    (acc0_succ a W c t ht).trans (step0_idle a W c t hi _)) t.val t rfl d
  rw [hb, fresh0 a t.val t.isLt.le]
  by_cases h0 : t.val % 4 = 0
  · rw [if_pos (decide_eq_true h0)]
    by_cases ht : t.val = 0
    · obtain ⟨n, hn⟩ := t; simp only at ht; subst ht; exact step0_reset a W c _ rfl _ _
    · rw [acc0_succ a W c t ht]; exact step0_reset a W c t h0 _ _
  · rw [decide_eq_false h0, if_neg Bool.false_ne_true, acc0_succ a W c t (fun h => h0 (by rw [h]))]
    rfl

/-- What a step leaves in the result's buffer, as the pipeline takes it back. -/
theorem leave0 (c : Dev nD) (t : Fin grid0.N) (d) (M : Memref sig .tc .vmem S128x1024 .f32) :
    (owns (c : Thread nD τ) M fullShare (step0 a W c t ((dat0 a W c).before 4 t d)) : sProp 𝕄) ⊢
      match (cfg0 a).idle 4 ((cfg0 a).grid.coords t) with
      | true =>
        match ((cfg0 a).win 4).flush t with
        | false => iprop(∃ d, owns (c : Thread nD τ) M fullShare ((dat0 a W c).before 4 t d))
        | true => owns (c : Thread nD τ) M fullShare ((dat0 a W c).after 4 t)
      | false => owns (c : Thread nD τ) M fullShare ((dat0 a W c).after 4 t) := by
  cases hi : (cfg0 a).idle 4 ((cfg0 a).grid.coords t) with
  | false => rw [step0_before]
  | true =>
    cases ((cfg0 a).win 4).flush t with
    | true => rw [step0_before]
    | false =>
      refine (Entails.of_eq (congrArg (owns (c : Thread nD τ) M fullShare) (step0_idle a W c t hi _))).trans ?_
      iintro H
      iexists d
      iexact H

/-- The feed-forward region's body obligation. -/
theorem bodyObligation0 (c : Dev nD) : BodyObligation (dat0 a W c) (defs₀ (F := F)) 𝒱₀ () Set.univ := fun t => by
  rw [bigSep_W0, bigSep_W0]
  rw [show (dat0 a W c).Φ t.castSucc = Φ0 a c from rfl, show (dat0 a W c).Φ t.succ = Φ0 a c from rfl,
    show (dat0 a W c).owesAt () t.succ = (dat0 a W c).owesAt () t.castSucc from rfl]
  dsimp only [Φ0, Pipeline.prefHeld]
  rw [show (Finset.univ : Finset (Fin pre0.K)) = {0} from rfl, BI.bigSep_singleton]
  iintro ⟨⟨HΦ, Ht⟩, Ho, ⟨%d0, H0⟩, ⟨%d1, H1⟩, ⟨%d2, H2⟩, ⟨%d3, H3⟩, ⟨%d4, H4⟩⟩
  ihave H0 := (Entails.of_eq (own_whole c _ (stage_whole0 0 _) _)) $$ H0
  icases H0 with ⟨%f0, %h0, H0⟩
  ihave H1 := (Entails.of_eq (own_whole c _ (stage_whole0 1 _) _)) $$ H1
  icases H1 with ⟨%f1, %h1, H1⟩
  ihave H2 := (Entails.of_eq (own_whole c _ (stage_whole0 2 _) _)) $$ H2
  icases H2 with ⟨%f2, %h2, H2⟩
  ihave H3 := (Entails.of_eq (own_whole c _ (stage_whole0 3 _) _)) $$ H3
  icases H3 with ⟨%f3, %h3, H3⟩
  ihave H4 := (Entails.of_eq (own_whole c _ (stage_whole0 4 _) _)) $$ H4
  icases H4 with ⟨%f4, %h4, H4⟩
  iapply (ffn_run c (grid0.coords t) (Memref.whole main_v96) (Memref.isWhole_whole _) _ (stage_whole0 0 _) _ (stage_whole0 1 _) _ (stage_whole0 2 _) _ (stage_whole0 3 _)
    _ (stage_whole0 4 _) (a.1 0) f0 f1 f2 f3 f4 Set.univ _)
  isplitl [Ht]; · iexact Ht
  isplitl [H0]; · iexact H0
  isplitl [H1]; · iexact H1
  isplitl [H2]; · iexact H2
  isplitl [H3]; · iexact H3
  isplitl [H4]; · iexact H4
  iintro ⟨Ht, H0, H1, H2, H3, ⟨%W', %hW, H4⟩⟩
  isplitl [HΦ Ht]
  · isplitl [HΦ]; · iexact HΦ
    iexact Ht
  isplitl [Ho]; · iexact Ho
  isplitl [H0]
  · iapply (Entails.of_eq (own_whole c _ (stage_whole0 0 _) _).symm)
    iexists f0; isplitr; · ipureintro; exact h0.trans (before0_in0 a W c t d0)
    iexact H0
  isplitl [H1]
  · iapply (Entails.of_eq (own_whole c _ (stage_whole0 1 _) _).symm)
    iexists f1; isplitr; · ipureintro; exact h1.trans (before0_in1 a W c t d1)
    iexact H1
  isplitl [H2]
  · iapply (Entails.of_eq (own_whole c _ (stage_whole0 2 _) _).symm)
    iexists f2; isplitr; · ipureintro; exact h2.trans (before0_in2 a W c t d2)
    iexact H2
  isplitl [H3]
  · iapply (Entails.of_eq (own_whole c _ (stage_whole0 3 _) _).symm)
    iexists f3; isplitr; · ipureintro; exact h3.trans (before0_in3 a W c t d3)
    iexact H3
  refine BIBase.Entails.trans ?_ (leave0 a W c t d4 (stage0_4 ((cfg0 a).slots t 4)))
  iintro H4
  iapply (Entails.of_eq (own_whole c _ (stage_whole0 4 _) _).symm)
  iexists W'; isplitr; swap; · iexact H4
  ipureintro
  refine hW.trans ?_
  exact congrArg₅ (ffnStep (grid0.coords t) _) (h0.trans (before0_in0 a W c t d0)) (h1.trans (before0_in1 a W c t d1))
    (h2.trans (before0_in2 a W c t d2)) (h3.trans (before0_in3 a W c t d3)) h4
end R0

/-! ## The combining region -/

section R1
variable (a : (pcfg1 (F := F)).Adm) (W : Dev nD → Valuation τ sig (Elt F))

/-- The block of window `w`'s array at a grid point, the arrays at the entry valuation. -/
def blk1 (c : Dev nD) (w : Fin 3) (t : Fin grid1.N) : ((cfg1 a).win w).block.Idx → Elt F ((cfg1 a).win w).elt :=
  (((cfg1 a).win w).blk t).view.read (Elt F) (W c (Proc.devRef .tc (Pipeline.arrRef spec1 w)))

/-- The invariant between grid points: the buffers no window stages, and the table. -/
abbrev Φ1 (c : Dev nD) : sProp 𝕄 :=
  iprop(Pipeline.scopedRest (Ix := Unit) (Name := ℕ) (U := UU) (Lvl := ℕ) (Val := Elt F) spec1 c ∗ Pipeline.prefHeld pre1 c (fun _ => fullShare) a.1)

/-- The region's proof data. -/
def dat1 (c : Dev nD) : Dat τ (Elt F) Unit ℕ UU ℕ (cfg1 a) c where
  A w := W c (Proc.devRef .tc (Pipeline.arrRef spec1 w))
  after w t := match w with
    | ⟨0, _⟩ => blk1 a W c 0 t
    | ⟨1, _⟩ => blk1 a W c 1 t
    | ⟨2, _⟩ => combAt (F := F) (grid1.coords t) (a.1 0) (blk1 a W c 0 t) (blk1 a W c 1 t)
  Φ _ := Φ1 a c
  q _ := fullShare
  owed _ := 0

theorem before1_in0 (c : Dev nD) (t : Fin grid1.N) (d) : (dat1 a W c).before 0 t d = blk1 a W c 0 t :=
  Dat.before_in_eq_fetched (dat1 a W c) 0 rfl (fun _ => rfl) (fun _ _ _ => rfl) (fun _ => rfl) t d
theorem before1_in1 (c : Dev nD) (t : Fin grid1.N) (d) : (dat1 a W c).before 1 t d = blk1 a W c 1 t :=
  Dat.before_in_eq_fetched (dat1 a W c) 1 rfl (fun _ => rfl) (fun _ _ _ => rfl) (fun _ => rfl) t d

/-- The combining region's body obligation, for a table whose words name rows. -/
theorem bodyObligation1 (hp : ∀ x : S4096.Idx, (a.1 0 x : BitVec 32).toNat < 5120) (c : Dev nD) :
    BodyObligation (dat1 a W c) (defs₀ (F := F)) 𝒱₀ () Set.univ := fun t => by
  rw [bigSep_W1, bigSep_W1]
  rw [show (dat1 a W c).Φ t.castSucc = Φ1 a c from rfl, show (dat1 a W c).Φ t.succ = Φ1 a c from rfl,
    show (dat1 a W c).owesAt () t.succ = (dat1 a W c).owesAt () t.castSucc from rfl]
  dsimp only [Φ1, Pipeline.prefHeld]
  rw [show (Finset.univ : Finset (Fin pre1.K)) = {0} from rfl, BI.bigSep_singleton]
  iintro ⟨⟨HΦ, Ht⟩, Ho, ⟨%d0, H0⟩, ⟨%d1, H1⟩, ⟨%d2, H2⟩⟩
  ihave H0 := (Entails.of_eq (own_whole c _ (stage_whole1 0 _) _)) $$ H0
  icases H0 with ⟨%f0, %h0, H0⟩
  ihave H1 := (Entails.of_eq (own_whole c _ (stage_whole1 1 _) _)) $$ H1
  icases H1 with ⟨%f1, %h1, H1⟩
  ihave H2 := (Entails.of_eq (own_whole c _ (stage_whole1 2 _) _)) $$ H2
  icases H2 with ⟨%f2, -, H2⟩
  iapply (comb_run c (grid1.coords t) (Memref.whole main_v104) (Memref.isWhole_whole _) _ (stage_whole1 0 _) _ (stage_whole1 1 _) _ (stage_whole1 2 _)
    (a.1 0) f0 f1 (fun x => hp x) f2 _)
  isplitl [Ht]; · iexact Ht
  isplitl [H0]; · iexact H0
  isplitl [H1]; · iexact H1
  isplitl [H2]; · iexact H2
  iintro ⟨Ht, H0, H1, ⟨%W', %hW, H2⟩⟩
  isplitl [HΦ Ht]
  · isplitl [HΦ]; · iexact HΦ
    iexact Ht
  isplitl [Ho]; · iexact Ho
  isplitl [H0]
  · iapply (Entails.of_eq (own_whole c _ (stage_whole1 0 _) _).symm)
    iexists f0; isplitr; · ipureintro; exact h0.trans (before1_in0 a W c t d0)
    iexact H0
  isplitl [H1]
  · iapply (Entails.of_eq (own_whole c _ (stage_whole1 1 _) _).symm)
    iexists f1; isplitr; · ipureintro; exact h1.trans (before1_in1 a W c t d1)
    iexact H1
  iapply (Entails.of_eq (own_whole c _ (stage_whole1 2 _) _).symm)
  iexists W'; isplitr; swap; · iexact H2
  ipureintro
  refine hW.trans ?_
  exact congrArg₂ (combAt (F := F) (grid1.coords t) (a.1 0)) (h0.trans (before1_in0 a W c t d0)) (h1.trans (before1_in1 a W c t d1))
end R1

/-! ## The launch -/

section Launch
variable (a : (p : Fin 2) → (pcfgs (F := F) p).Adm) (W0 W1 : Dev nD → Valuation τ sig (Elt F))

/-- The proof data of both launches. -/
def pdats : (p : Fin 2) → (c : Dev nD) → Dat τ (Elt F) Unit ℕ UU ℕ (Pipeline.pin (pcfgs (F := F)) a p) c
  | ⟨0, _⟩ => dat0 (a 0) W0
  | ⟨1, _⟩ => dat1 (a 1) W1

theorem cut (p : Fin 2) : Pipeline.LevelCut (pcfgs (F := F)) a () L lv p (fun _ => 0) (fun _ => 0) where
  hι _ _ _ := by show () ∈ (if _ then _ else _); rw [if_pos rfl]; exact Finset.mem_univ _
  hιb _ _ _ := le_refl 0
  hD _ _ _ h := absurd h (lt_irrefl 0)

/-- The first launch, over every buffer at a valuation. -/
def reg0 (hT : ∀ k, (a 0).1 k = W0 0 (Proc.devRef .tc (pre0.ref k))) : Pipeline.RegionSeg (pcfgs (F := F)) a (pdats a W0 W1) () defs₀ 𝒱₀ L lv 0 :=
  Pipeline.RegionSeg.ofHeldInT (pcfgs (F := F)) a (pdats a W0 W1) () defs₀ 𝒱₀ L lv 0 (fun _ => 0) (Pipeline.ucRefs τ sig)
    (fun _ => BI.emp) (fun _ => BI.emp) launch0 (fun c => (bodyObligation0 (a 0) W0 c).loose)
    (fun _ _ => rfl) (fun _ => rfl) (fun c => (pdats a W0 W1 0 c).share_full fun _ => rfl)
    (fun c => by
      show iprop(iprop(_ ∗ BI.emp) ∗ _) ⊢ Φ0 (a 0) c
      iintro ⟨⟨H, -⟩, Ht⟩
      isplitl [H]; · iexact H
      iexact Ht)
    (fun c => by
      show Φ0 (a 0) c ⊢ iprop(iprop(_ ∗ BI.emp) ∗ _)
      iintro ⟨H, Ht⟩
      isplitr [Ht]
      · isplitl [H]; · iexact H
        iempintro
      iexact Ht)
    (fun _ => 0) (cut a 0) (fun _ => BI.emp) W0 (fun _ _ => rfl)
    (fun c k => by obtain rfl : c = 0 := Subsingleton.elim _ _; exact hT k)

/-- The second launch, over every buffer at a valuation. -/
def reg1 (hp : ∀ x : S4096.Idx, ((a 1).1 0 x : BitVec 32).toNat < 5120)
    (hT : ∀ k, (a 1).1 k = W1 0 (Proc.devRef .tc (pre1.ref k))) : Pipeline.RegionSeg (pcfgs (F := F)) a (pdats a W0 W1) () defs₀ 𝒱₀ L lv 1 :=
  Pipeline.RegionSeg.ofHeldInT (pcfgs (F := F)) a (pdats a W0 W1) () defs₀ 𝒱₀ L lv 1 (fun _ => 0) (Pipeline.ucRefs τ sig)
    (fun _ => BI.emp) (fun _ => BI.emp) launch1 (fun c => (bodyObligation1 (a 1) W1 hp c).loose)
    (fun _ _ => rfl) (fun _ => rfl) (fun c => (pdats a W0 W1 1 c).share_full fun _ => rfl)
    (fun c => by
      show iprop(iprop(_ ∗ BI.emp) ∗ _) ⊢ Φ1 (a 1) c
      iintro ⟨⟨H, -⟩, Ht⟩
      isplitl [H]; · iexact H
      iexact Ht)
    (fun c => by
      show Φ1 (a 1) c ⊢ iprop(iprop(_ ∗ BI.emp) ∗ _)
      iintro ⟨H, Ht⟩
      isplitr [Ht]
      · isplitl [H]; · iexact H
        iempintro
      iexact Ht)
    (fun _ => 0) (cut a 1) (fun _ => BI.emp) W1 (fun _ _ => rfl)
    (fun c k => by obtain rfl : c = 0 := Subsingleton.elim _ _; exact hT k)

/-- After a launch every buffer but its result (window `w₀`) is as it was. -/
theorem after_eq {p : Fin 2} (c : Dev nD) (V : Valuation τ sig (Elt F)) (w₀ : Fin (Pipeline.pin (pcfgs (F := F)) a p).W)
    (hinj : Function.Injective (Pipeline.arrRef (pcfgs (F := F) p).spec))
    (hin : ∀ w, w ≠ w₀ → ((Pipeline.pin (pcfgs (F := F)) a p).win w).isOut = false)
    (hA : ∀ w, (pdats a W0 W1 p c).A w = V (Proc.devRef .tc (Pipeline.arrRef (pcfgs (F := F) p).spec w))) :
    Pipeline.afterRegion (pdats a W0 W1 p c) V
      = Function.update V (Proc.devRef .tc (Pipeline.arrRef (pcfgs (F := F) p).spec w₀)) ((pdats a W0 W1 p c).arrAt w₀ (Pipeline.pin (pcfgs (F := F)) a p).N) := by
  funext b
  by_cases hb : ∃ w, b = Proc.devRef .tc (Pipeline.arrRef (pcfgs (F := F) p).spec w)
  · obtain ⟨w, rfl⟩ := hb
    refine (Pipeline.afterRegion_arr (pdats a W0 W1 p c) V hinj w).trans ?_
    by_cases hw : w = w₀
    · subst hw
      exact (Function.update_self (β := fun b : DevRef τ sig => b.ty.Contents (Elt F)) _ _ _).symm
    · rw [Function.update_of_ne (fun e => hw (hinj (Proc.devRef_injective _ e)))]
      exact ((pdats a W0 W1 p c).arrAt_in w (hin w hw) _).trans (hA w)
  · have hb' : b ≠ Proc.devRef .tc (Pipeline.arrRef (pcfgs (F := F) p).spec w₀) := fun e => hb ⟨w₀, e⟩
    unfold Pipeline.afterRegion
    rw [dif_neg hb, Function.update_of_ne hb']

theorem after0 (c : Dev nD) : Pipeline.afterRegion (pdats a W0 W1 0 c) (W0 c)
    = Function.update (W0 c) main_v112 ((dat0 (a 0) W0 c).arrAt 4 (cfg0 (a 0)).N) :=
  after_eq a W0 W1 (p := 0) c (W0 c) (4 : Fin 5) (launch0 (F := F)).win.arr_inj
    (fun | 0, _ => rfl | 1, _ => rfl | 2, _ => rfl | 3, _ => rfl | 4, h => absurd rfl h) (fun _ => rfl)

theorem after1 (c : Dev nD) : Pipeline.afterRegion (pdats a W0 W1 1 c) (W1 c)
    = Function.update (W1 c) main_v113 ((dat1 (a 1) W1 c).arrAt 2 (cfg1 (a 1)).N) :=
  after_eq a W0 W1 (p := 1) c (W1 c) (2 : Fin 3) (launch1 (F := F)).win.arr_inj
    (fun | 0, _ => rfl | 1, _ => rfl | 2, h => absurd rfl h) (fun _ => rfl)

/-- What rides beside the buffers between the program's steps: the core owes nothing. -/
abbrev rest : Fin 3 → Dev nD → sProp 𝕄 := fun _ c =>
  iprop((∃ Wd, owes (c : Thread nD τ) (0 : CellTallies nD τ sig Unit) Wd) ∗ BI.emp ∗ BI.emp)

theorem arr0_uc : Pipeline.arrRefs (τ := τ) spec0 ⊆ Pipeline.ucRefs τ sig := Pipeline.arrRefs_sub_ucRefs _ (by decide)
theorem arr1_uc : Pipeline.arrRefs (τ := τ) spec1 ⊆ Pipeline.ucRefs τ sig := Pipeline.arrRefs_sub_ucRefs _ (by decide)
theorem tbl0_uc : Pipeline.tblRefs (τ := τ) pre0 ⊆ Pipeline.ucRefs τ sig := Pipeline.tblRefs_sub_ucRefs _ (by decide)
theorem tbl1_uc : Pipeline.tblRefs (τ := τ) pre1 ⊆ Pipeline.ucRefs τ sig := Pipeline.tblRefs_sub_ucRefs _ (by decide)

theorem pre0_ok (hT) (c : Dev nD) : iprop(StableHlo.held (c : Thread nD τ) (Pipeline.ucRefs τ sig) (W0 c) ∗ rest 0 c) ⊢ (reg0 a W0 W1 hT).pre c := by
  unfold reg0
  exact Pipeline.RegionSeg.ofHeldInT_pre (pcs := pcfgs (F := F)) (a := a) (p := 0) (pdats := pdats a W0 W1)
    (D := fun _ => 0) (X := fun _ => BI.emp) (Y := fun _ => BI.emp) (R := fun _ => BI.emp) (W := W0) (S := Pipeline.ucRefs τ sig) (by exact arr0_uc) (by exact tbl0_uc) c
theorem post0_ok (hT) (c : Dev nD) : (reg0 a W0 W1 hT).post c ⊢ iprop(StableHlo.held (c : Thread nD τ) (Pipeline.ucRefs τ sig)
    (Function.update (W0 c) main_v112 ((dat0 (a 0) W0 c).arrAt 4 (cfg0 (a 0)).N)) ∗ rest 1 c) := by
  rw [← after0 a W0 W1]
  unfold reg0
  exact Pipeline.RegionSeg.ofHeldInT_post (pcs := pcfgs (F := F)) (a := a) (p := 0) (pdats := pdats a W0 W1)
    (D := fun _ => 0) (X := fun _ => BI.emp) (Y := fun _ => BI.emp) (R := fun _ => BI.emp) (W := W0) (S := Pipeline.ucRefs τ sig) (by exact arr0_uc) (by exact tbl0_uc) c
theorem pre1_ok (hp hT) (c : Dev nD) : iprop(StableHlo.held (c : Thread nD τ) (Pipeline.ucRefs τ sig) (W1 c) ∗ rest 1 c) ⊢ (reg1 a W0 W1 hp hT).pre c := by
  unfold reg1
  exact Pipeline.RegionSeg.ofHeldInT_pre (pcs := pcfgs (F := F)) (a := a) (p := 1) (pdats := pdats a W0 W1)
    (D := fun _ => 0) (X := fun _ => BI.emp) (Y := fun _ => BI.emp) (R := fun _ => BI.emp) (W := W1) (S := Pipeline.ucRefs τ sig) (by exact arr1_uc) (by exact tbl1_uc) c
theorem post1_ok (hp hT) (c : Dev nD) : (reg1 a W0 W1 hp hT).post c ⊢ iprop(StableHlo.held (c : Thread nD τ) (Pipeline.ucRefs τ sig)
    (Function.update (W1 c) main_v113 ((dat1 (a 1) W1 c).arrAt 2 (cfg1 (a 1)).N)) ∗ rest 2 c) := by
  rw [← after1 a W0 W1]
  unfold reg1
  exact Pipeline.RegionSeg.ofHeldInT_post (pcs := pcfgs (F := F)) (a := a) (p := 1) (pdats := pdats a W0 W1)
    (D := fun _ => 0) (X := fun _ => BI.emp) (Y := fun _ => BI.emp) (R := fun _ => BI.emp) (W := W1) (S := Pipeline.ucRefs τ sig) (by exact arr1_uc) (by exact tbl1_uc) c

end Launch

end Cert.Proof.KernelIdeal
end
-- ==== Proof.KI.Run.lean ====
/- The whole program run: from what the host leaves, through the two launches, to every buffer's final contents. -/
module

public import proofs.«01_k».proof.Proof.KI.Region

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)

variable {F : FTy → Type} [FloatOps F]

local notation "𝕄" => MT nD τ sig Unit (Elt F) ℕ UU ℕ

variable (m : (ℓ : Loc nD τ sig) → Buf (Elt F) ℓ)

/-- The buffers at the first launch, as the host leaves them. -/
@[irreducible] def Vpre (c : Dev nD) : Valuation τ sig (Elt F) := V13 m c

theorem Vpre_eq (c : Dev nD) : Vpre m c = V13 m c := by unfold Vpre; rfl

/-- The first launch's table: the block table the host computes, on the one core. -/
def tab0 : pre0.Contents (Elt F) := fun k => Vpre m 0 (Proc.devRef .tc (pre0.ref k))
/-- The second launch's table: the table of rows the host computes, on the one core. -/
def tab1 : pre1.Contents (Elt F) := fun k => Vpre m 0 (Proc.devRef .tc (pre1.ref k))

/-- What the run needs of the two tables: the first names blocks inside the weights, the second names rows. -/
structure TabOk : Prop where
  blocks : ok0 (tab0 m)
  rows : ∀ x : S4096.Idx, (tab1 m 0 x : BitVec 32).toNat < 5120

variable (h : TabOk m)

/-- The two tables, admissible. -/
def adm : (p : Fin 2) → (pcfgs (F := F) p).Adm
  | ⟨0, _⟩ => ⟨tab0 m, h.blocks⟩
  | ⟨1, _⟩ => ⟨tab1 m, trivial⟩

/-- The feed-forward result after the first launch. -/
def out112 (c : Dev nD) : Buf (Elt F) ((c : Thread nD τ).loc main_v112) := (dat0 (adm m h 0) (Vpre m) c).arrAt 4 (cfg0 (adm m h 0)).N

/-- The buffers between the two launches. -/
def Vmid (c : Dev nD) : Valuation τ sig (Elt F) := Function.update (Vpre m c) main_v112 (out112 m h c)

/-- The program's result after the second launch. -/
def out113 (c : Dev nD) : Buf (Elt F) ((c : Thread nD τ).loc main_v113) := (dat1 (adm m h 1) (Vmid m h) c).arrAt 2 (cfg1 (adm m h 1)).N

/-- What the two launches leave. -/
def outs : Outs (F := F) := fun _ r c =>
  Function.update (Function.update (fun r : Ref sig .tc => m ((c : Thread nD τ).loc r)) main_v112 (out112 m h c)) main_v113 (out113 m h c) r

theorem outs_112 (n : ℕ) (c : Dev nD) : outs m h n main_v112 c = out112 m h c := by
  unfold outs
  rw [Function.update_of_ne (show main_v112 ≠ main_v113 by decide), Function.update_self]
theorem outs_113 (n : ℕ) (c : Dev nD) : outs m h n main_v113 c = out113 m h c := by
  unfold outs
  rw [Function.update_self]

theorem V14_eq (c : Dev nD) : V14 m (outs m h) c = Vmid m h c := by
  show Function.update (V13 m c) main_v112 (outs m h 14 main_v112 c) = _
  rw [outs_112, ← Vpre_eq]; rfl

theorem V15_eq (c : Dev nD) : V15 m (outs m h) c = Function.update (Vmid m h c) main_v113 (out113 m h c) := by
  show Function.update (V14 m (outs m h) c) main_v113 (outs m h 15 main_v113 c) = _
  rw [outs_113, V14_eq]

theorem tabT0 (k) : (adm m h 0).1 k = Vpre m 0 (Proc.devRef .tc (pre0.ref k)) := rfl

theorem ne_104_112 : (Proc.devRef .tc main_v104 : DevRef τ sig) ≠ Proc.devRef .tc main_v112 :=
  fun e => absurd (Proc.devRef_injective _ e) (by decide)

theorem upd_104 (W : Valuation τ sig (Elt F)) (x : (Proc.devRef .tc main_v112 : DevRef τ sig).ty.Contents (Elt F)) :
    (Function.update W (Proc.devRef .tc main_v112) x : Valuation τ sig (Elt F)) (Proc.devRef .tc (pre1.ref 0)) = W (Proc.devRef .tc (pre1.ref 0)) :=
  Function.update_of_ne ne_104_112 _ _

theorem tabT1 (k) : (adm m h 1).1 k = Vmid m h 0 (Proc.devRef .tc (pre1.ref k)) := by
  match k with
  | ⟨0, _⟩ => exact (upd_104 (Vpre m 0) (out112 m h 0)).symm

/-- The two launches over the thread state. -/
abbrev R0 := reg0 (adm m h) (Vpre m) (Vmid m h) (tabT0 m h)
@[inherit_doc R0] abbrev R1 := reg1 (adm m h) (Vpre m) (Vmid m h) h.rows (tabT1 m h)

theorem in0 (c : Dev nD) : iprop(StableHlo.held (c : Thread nD τ) (Pipeline.ucRefs τ sig) (V13 m c) ∗ rest (F := F) 0 c) ⊢ (R0 m h).pre c := by
  rw [← Vpre_eq]
  exact pre0_ok (adm m h) (Vpre m) (Vmid m h) (tabT0 m h) c

theorem mid (c : Dev nD) : (R0 m h).post c ⊢ (R1 m h).pre c :=
  (post0_ok (adm m h) (Vpre m) (Vmid m h) (tabT0 m h) c).trans (pre1_ok (adm m h) (Vpre m) (Vmid m h) h.rows (tabT1 m h) c)

theorem out1 (c : Dev nD) : (R1 m h).post c ⊢ iprop(StableHlo.held (c : Thread nD τ) (Pipeline.ucRefs τ sig) (V15 m (outs m h) c) ∗ rest (F := F) 2 c) := by
  rw [V15_eq]
  exact post1_ok (adm m h) (Vpre m) (Vmid m h) h.rows (tabT1 m h) c

-- the launch theorem's implicit arguments are found by unifying its conclusion with this one, which takes unfolding
-- plain definitions in a metavariable's type
set_option backward.isDefEq.respectTransparency.types false in
/-- Every fair run of the program ends, with every buffer of the one core at the last valuation and every semaphore
    counter at zero. -/
theorem run_all (ρ : Dev nD → PrngReg) :
    θ_run defs (onTc (τ := τ) (main (F := F))) ⟨m, fun _ => 0, ρ⟩ (fun r =>
      (∀ c : Dev nD, ∀ b ∈ Pipeline.ucRefs τ sig, r.2.mem ((c.tc : Thread nD τ).1, b) = V15 m (outs m h) c b) ∧ r.2.sem = fun _ => 0) := by
  refine Pipeline.θ_run_regions_kit_dev_sems (pcfgs (F := F)) (adm m h) (pdats (adm m h) (Vpre m) (Vmid m h)) () (cellOf_inj (adm m h)) emb₁
    defs₀ 𝒱₀ L lv m ρ main
    (segs m 𝒱₀ L lv (rest (F := F)) () (adm m h) (pdats (adm m h) (Vpre m) (Vmid m h)) (R0 m h) (R1 m h))
    (fun c Q => by
      rewrite [main_chain c, Seg.run_eq_chain,
        show (segs m 𝒱₀ L lv (rest (F := F)) () (adm m h) (pdats (adm m h) (Vpre m) (Vmid m h)) (R0 m h) (R1 m h) c).map Seg.prog = [
          StableHlo.seq hostOps0, StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, StableHlo.seq hostOps0_9, StableHlo.seq hostOps0_10, StableHlo.seq hostOps0_11,
          StableHlo.seq hostOps0_12,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (O₀ := 0)
    (fun g hg => if_neg hg) (fun _ => iprop(emp))
    (initOf (Pipeline.cells (Pipeline.pin (pcfgs (F := F)) (adm m h)) (cellOf_inj (adm m h))) (Pipeline.launchToks (Pipeline.pin (pcfgs (F := F)) (adm m h)) (cellOf_inj (adm m h))))
    (hu₀ := by
      iintro Hu; imodintro
      isplitl [Hu]
      · iapply (show (ownU _ : sProp 𝕄) ⊢ BI.own (emb₁ (initOf (Pipeline.cells (Pipeline.pin (pcfgs (F := F)) (adm m h)) (cellOf_inj (adm m h)))
          (Pipeline.launchToks (Pipeline.pin (pcfgs (F := F)) (adm m h)) (cellOf_inj (adm m h))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest (F := F) 0 c))
    (Tₙ := fun c => StableHlo.held (c : Thread nD τ) (Pipeline.ucRefs τ sig) (V15 m (outs m h) c))
    (hch := fun c => ⟨.rfl, .rfl, .rfl, .rfl, .rfl, .rfl, .rfl, .rfl, .rfl, .rfl, .rfl, .rfl, .rfl, in0 m h c, mid m h c,
      (out1 m h c).trans (by
        iintro ⟨Hh, HO, -, -⟩
        isplitl [Hh] <;> iassumption)⟩)
    (hinit := by
      refine Pipeline.initEach L lv fun c => ?_
      rw [show unscopedBufs c (fun b => m ((c.tc : Thread nD τ).loc b)) = StableHlo.held (c.tc : Thread nD τ) (Pipeline.ucRefs τ sig) (V0 m c)
          from Pipeline.unscopedBufs_held (Ix := Unit) (Name := ℕ) (U := UU) (Lvl := ℕ) c (V0 m c)]
      iintro ⟨⟨Hh, -, HO, -, -, -⟩, -⟩
      imodintro
      isplitl [Hh]; · iexact Hh
      isplitl [HO]; · iexists ∅; iexact HO
      isplitl <;> iempintro)
    (QY := fun c s => ∀ b ∈ Pipeline.ucRefs τ sig, s.mem ((c.tc : Thread nD τ).1, b) = V15 m (outs m h) c b)
    (hfin := fun c s' => by
      unfold StableHlo.held
      iintro ⟨Hh, HSI⟩
      ihave Hr := (pointsTo_read_all (Pipeline.ucRefs τ sig) (fun b => ((c.tc : Thread nD τ).1, b)) (V15 m (outs m h) c) s') $$ [Hh HSI]
      · isplitl [Hh] <;> iassumption
      imodintro; iexact Hr)
    (hQ := fun _ h hz => ⟨h, funext fun g => hz g (.inr (regions_no_unscoped g.2))⟩)

/-- Every fair run of the program ends, with the arguments as they were, the result at `out113`, and every semaphore
    counter at zero. -/
theorem run_main (ρ : Dev nD → PrngReg) :
    θ_run defs (onTc (τ := τ) (main (F := F))) ⟨m, fun _ => 0, ρ⟩ (fun r => (∀ c : Dev nD,
      r.2.mem ((c.tc : Thread nD τ).loc main_v113) = out113 m h c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run _ _ _).mono (fun r hr => ⟨fun c => ?_, hr.2⟩) (run_all m h ρ)
  have hb : ∀ b : Ref sig .tc, b.isScoped = false → (Proc.devRef .tc b : DevRef τ sig) ∈ Pipeline.ucRefs τ sig := fun b hb =>
    Finset.mem_filter.mpr ⟨StableHlo.devRef_mem_tcRefs b, fun h' => Bool.false_ne_true (hb.symm.trans h')⟩
  exact ⟨(hr.1 c _ (hb main_v113 rfl)).trans (by rw [V15_eq]; exact Function.update_self (β := fun b : DevRef τ sig => b.ty.Contents (Elt F)) _ _ _),
    (hr.1 c _ (hb main_arg0 rfl)).trans (V15_main_arg0 m (outs m h) c), (hr.1 c _ (hb main_arg1 rfl)).trans (V15_main_arg1 m (outs m h) c),
    (hr.1 c _ (hb main_arg2 rfl)).trans (V15_main_arg2 m (outs m h) c), (hr.1 c _ (hb main_arg3 rfl)).trans (V15_main_arg3 m (outs m h) c),
    (hr.1 c _ (hb main_arg4 rfl)).trans (V15_main_arg4 m (outs m h) c)⟩

end Cert.Proof.KernelIdeal
end
-- ==== Proof.KI.HostFacts.lean ====
/- The routing the host computes: where each pick's row goes, and which expert each block of rows is for. -/
module

public import proofs.«01_k».proof.Proof.KI.HostReads
public import proofs.«01_k».proof.Proof.KI.Run

@[expose] public section

set_option maxRecDepth 4096

noncomputable section

namespace Cert.Proof.KernelIdeal

open Cert.KernelIdeal Cert.KernelIdeal.Gen
open Idealize.ShloMosaic Idealize.ShloMosaic.TcCoe Idealize.ShloMosaic.StableHlo
open Idealize.ShloMosaic.Routing Idealize.ShloMosaic.ValueIdx
open Cert.Proof.Words Cert.Proof.Route Cert.Proof.Plan

variable {F : FTy → Type} [FloatOps F]

/-- The buffers before and after each stretch of host operations. -/
structure Chain (W : ℕ → Valuation τ sig (Elt F)) : Prop where
  s0 : W 1 = after hostOps0 (W 0)
  s1 : W 2 = after hostOps0_1 (W 1)
  s2 : W 3 = after hostOps0_2 (W 2)
  s3 : W 4 = after hostOps0_3 (W 3)
  s4 : W 5 = after hostOps0_4 (W 4)
  s5 : W 6 = after hostOps0_5 (W 5)
  s6 : W 7 = after hostOps0_6 (W 6)
  s7 : W 8 = after hostOps0_7 (W 7)
  s8 : W 9 = after hostOps0_8 (W 8)
  s9 : W 10 = after hostOps0_9 (W 9)
  s10 : W 11 = after hostOps0_10 (W 10)
  s11 : W 12 = after hostOps0_11 (W 11)
  s12 : W 13 = after hostOps0_12 (W 12)

/-- The block starts' words. -/
theorem blockStarts_at (b : Fin 40) : blockStarts (ix1 b) = BitVec.ofNat 32 (b.val * 128) := by
  show BitVec.ofNat 32 b.val * 128#32 = _
  exact (BitVec.ofNat_mul _ _).symm

variable {W : ℕ → Valuation τ sig (Elt F)} (C : Chain W)

namespace Chain

include C

/-! ### A buffer a stretch does not write stays -/

theorem k1 (r : Ref sig .tc) (h : r ∉ hostOps0_1_W) : W 2 r = W 1 r := by rw [C.s1]; exact after_of_writes_sub hostOps0_1 _ hostOps0_1_writes h
theorem k2 (r : Ref sig .tc) (h : r ∉ hostOps0_2_W) : W 3 r = W 2 r := by rw [C.s2]; exact after_of_writes_sub hostOps0_2 _ hostOps0_2_writes h
theorem k3 (r : Ref sig .tc) (h : r ∉ hostOps0_3_W) : W 4 r = W 3 r := by rw [C.s3]; exact after_of_writes_sub hostOps0_3 _ hostOps0_3_writes h
theorem k4 (r : Ref sig .tc) (h : r ∉ hostOps0_4_W) : W 5 r = W 4 r := by rw [C.s4]; exact after_of_writes_sub hostOps0_4 _ hostOps0_4_writes h
theorem k5 (r : Ref sig .tc) (h : r ∉ hostOps0_5_W) : W 6 r = W 5 r := by rw [C.s5]; exact after_of_writes_sub hostOps0_5 _ hostOps0_5_writes h
theorem k6 (r : Ref sig .tc) (h : r ∉ hostOps0_6_W) : W 7 r = W 6 r := by rw [C.s6]; exact after_of_writes_sub hostOps0_6 _ hostOps0_6_writes h
theorem k7 (r : Ref sig .tc) (h : r ∉ hostOps0_7_W) : W 8 r = W 7 r := by rw [C.s7]; exact after_of_writes_sub hostOps0_7 _ hostOps0_7_writes h
theorem k8 (r : Ref sig .tc) (h : r ∉ hostOps0_8_W) : W 9 r = W 8 r := by rw [C.s8]; exact after_of_writes_sub hostOps0_8 _ hostOps0_8_writes h
theorem k9 (r : Ref sig .tc) (h : r ∉ hostOps0_9_W) : W 10 r = W 9 r := by rw [C.s9]; exact after_of_writes_sub hostOps0_9 _ hostOps0_9_writes h
theorem k10 (r : Ref sig .tc) (h : r ∉ hostOps0_10_W) : W 11 r = W 10 r := by rw [C.s10]; exact after_of_writes_sub hostOps0_10 _ hostOps0_10_writes h
theorem k11 (r : Ref sig .tc) (h : r ∉ hostOps0_11_W) : W 12 r = W 11 r := by rw [C.s11]; exact after_of_writes_sub hostOps0_11 _ hostOps0_11_writes h
theorem k12 (r : Ref sig .tc) (h : r ∉ hostOps0_12_W) : W 13 r = W 12 r := by rw [C.s12]; exact after_of_writes_sub hostOps0_12 _ hostOps0_12_writes h

end Chain

section Facts

/-- The two experts picked for each token, as the top two's index words name them. -/
def Picks (W : ℕ → Valuation τ sig (Elt F)) (f : Fin 2048 → Fin 2 → Fin 8) : Prop :=
  ∀ t q, (W 1 main_indices : IVec S2048x2 32) (ix2 t q) = BitVec.ofNat 32 (f t q).val

variable {f : Fin 2048 → Fin 2 → Fin 8} (hf : Picks W f)

/-- The order of the picks by expert. -/
def order (W : ℕ → Valuation τ sig (Elt F)) : ℕ → ℕ := sorted (W 1 main_v17 : IVec S4096 32)

include C hf

/-- The picked experts, flattened. -/
theorem v17 (j : Fin 4096) : (W 1 main_v17 : IVec S4096 32) (ix1 j) = BitVec.ofNat 32 (pick f j.val) := by
  have h := read_v17 (W 0)
  rw [← C.s0] at h
  rw [h]
  exact (flat_at _ shapeCasts_S2048x2_S4096 j).trans (hf _ _)

theorem v17_at {n : ℕ} (hn : n < 4096) : (W 1 main_v17 : IVec S4096 32) (ix1 ⟨n, hn⟩) = BitVec.ofNat 32 (pick f n) := v17 C hf ⟨n, hn⟩

theorem isOrder : Order (pick f) (order W) := sorted_order _ f (v17 C hf)

/-- The order's words. -/
theorem v18 (p : Fin 4096) : (W 2 main_v18 : IVec S4096 32) (ix1 p) = BitVec.ofNat 32 (order W p.val) := by
  rw [C.s1, read_v18]
  refine (argsort_at comparator_i32_i32_d0 (fun _ _ => rfl) _ p).trans ?_
  unfold order sorted
  rw [show (⟨p.val % 4096, Nat.mod_lt _ (by decide)⟩ : Fin 4096) = p from Fin.ext (Nat.mod_eq_of_lt p.isLt)]

/-- The experts along the order. -/
theorem v25 (p : Fin 4096) : (W 3 main_v25 : IVec S4096 32) (ix1 p) = BitVec.ofNat 32 (pick f (order W p.val)) := by
  have hlt := (isOrder C hf).lt p.val p.isLt
  have h31 : order W p.val < 2 ^ 31 := by omega
  rw [C.s2, read_v25, C.k1 main_v17 (by decide)]
  exact (take_at _ _ _ _ gather_S4096_S4096x1_S4096_n_0_n_n_0_1_1 rfl rfl rfl rfl _ p hlt h31 (v18 C hf p)).trans (v17_at C hf hlt)

/-- The experts' counts. -/
theorem v35 (k : Fin 8) : (W 5 main_v35 : IVec S8 32) (ix1 k) = BitVec.ofNat 32 (cnt (pick f) k.val) := by
  have h17 : (W 3 main_v17 : IVec S4096 32) = W 1 main_v17 := (C.k2 _ (by decide)).trans (C.k1 _ (by decide))
  have h27 : ∀ j : Fin 4096, (W 4 main_v27 : IVec S4096 32) (ix1 j) = BitVec.ofNat 32 (pick f j.val) := fun j => by
    have hc : (W 3 main_c_5 : IVec S_ 32) = constantI S_ 32 0#32 := by rw [C.s2]; exact read_c5 _
    rw [C.s3, read_v27, hc, h17]
    refine (congrArg (IntOp.maxsi 0#32) (v17 C hf j)).trans ?_
    have := pick_lt f j.val
    generalize pick f j.val = n at this
    interval_cases n <;> decide
  have h26 : (W 4 main_v26 : IVec S8 32) = broadcastInDim S8 ![] bcast_S_S8 (constantI S_ 32 0#32) := by
    rw [C.k3 main_v26 (by decide), C.s2]
    exact read_v26 _
  rw [C.s4, read_v35, h26]
  exact histogram scatter_S8_S4096x1_S4096_n_0_0_1 rfl rfl rfl _ (pick f)
    (fun j => col_at _ _ _ _ j (h27 j) ((pick_lt f _).trans (by decide))) (fun j => (pick_lt f _).trans (by decide)) _ (fun _ => rfl) _ (fun _ => rfl) k

/-- The padded counts. -/
theorem v42 (k : Fin 8) : (W 7 main_v42 : IVec S8 32) (ix1 k) = BitVec.ofNat 32 (padded (pick f) k.val) := by
  have h39 : (W 5 main_v39 : IVec S8 32) = subi (addi (W 5 main_v35 : IVec S8 32) (broadcastInDim S8 ![] bcast_S_S8 (constantI S_ 32 128#32)))
        (broadcastInDim S8 ![] bcast_S_S8 (constantI S_ 32 1#32)) := by rw [C.s4]; exact read_v39 _
  have h11 : (W 5 main_c_11 : IVec S_ 32) = constantI S_ 32 128#32 := by rw [C.s4]; exact read_c11 _
  have h40 : (W 6 main_v40 : IVec S8 32) = pyDiv bcast_S_S8 (W 5 main_v39 : IVec S8 32) (W 5 main_c_11) := by rw [C.s5]; exact read_v40 _
  rw [C.s6, read_v42, h40, h39, h11]
  exact padded_at _ bcast_S_S8 _ k (v35 C hf k)

/-- The segments' starts. -/
theorem v46 (k : Fin 8) : (W 9 main_v46 : IVec S8 32) (ix1 k) = BitVec.ofNat 32 (seg (pick f) k.val) := by
  have h43 : (W 8 main_v43 : IVec S1 32) = broadcastInDim S1 ![] bcast_S_S1 (constantI S_ 32 0#32) := by
    rw [C.k7 main_v43 (by decide), C.s6]
    exact read_v43 _
  have h44 : ∀ k : Fin 8, (W 8 main_v44 : IVec S8 32) (ix1 k) = BitVec.ofNat 32 (seg (pick f) (k.val + 1)) := fun k => by
    rw [C.s7, read_v44]
    exact running (padded (pick f)) _ (v42 C hf) bcast_S_S_ reduceWindows_S8_S8_w8s1p7_0 h_S_ k
  rw [C.s8, read_v46, h43]
  exact shifted _ _ _ _ (seg (pick f)) rfl h44 k

/-- The experts' starts along the order. -/
theorem v50 (k : Fin 8) : (W 11 main_v50 : IVec S8 32) (ix1 k) = BitVec.ofNat 32 (uns (pick f) k.val) := by
  have h47 : (W 10 main_v47 : IVec S1 32) = broadcastInDim S1 ![] bcast_S_S1 (constantI S_ 32 0#32) := by
    rw [C.k9 main_v47 (by decide), C.s8]
    exact read_v47 _
  have h35 : (W 9 main_v35 : IVec S8 32) = W 5 main_v35 :=
    (C.k8 _ (by decide)).trans ((C.k7 _ (by decide)).trans ((C.k6 _ (by decide)).trans (C.k5 _ (by decide))))
  have h48 : ∀ k : Fin 8, (W 10 main_v48 : IVec S8 32) (ix1 k) = BitVec.ofNat 32 (uns (pick f) (k.val + 1)) := fun k => by
    rw [C.s9, read_v48, h35]
    exact running (cnt (pick f)) _ (v35 C hf) bcast_S_S_ reduceWindows_S8_S8_w8s1p7_0 h_S_ k
  rw [C.s10, read_v50, h47]
  exact shifted _ _ _ _ (uns (pick f)) rfl h48 k

/-- The rows of the picks along the order. -/
theorem v67 (p : Fin 4096) : (W 11 main_v67 : IVec S4096 32) (ix1 p) = BitVec.ofNat 32 (dst (pick f) (order W) p.val) := by
  have hlt := pick_lt f (order W p.val)
  have h25 : (W 10 main_v25 : IVec S4096 32) = W 3 main_v25 :=
    (C.k9 _ (by decide)).trans ((C.k8 _ (by decide)).trans ((C.k7 _ (by decide)).trans ((C.k6 _ (by decide)).trans
      ((C.k5 _ (by decide)).trans ((C.k4 _ (by decide)).trans (C.k3 _ (by decide)))))))
  have h46 : (W 10 main_v46 : IVec S8 32) = W 9 main_v46 := C.k9 _ (by decide)
  have h50 : (after hostOps0_10 (W 10) main_v50 : IVec S8 32) = W 11 main_v50 := by rw [C.s10]
  rw [C.s10, read_v67, h25, h46, h50]
  refine (congrArg₂ (fun a b : BitVec 32 => a + (BitVec.ofNat 32 p.val - b))
    (take_at _ _ _ _ gather_S8_S4096x1_S4096_n_0_n_n_0_1_1 rfl rfl rfl rfl _ p hlt (hlt.trans (by decide)) (v25 C hf p))
    (take_at _ _ _ _ gather_S8_S4096x1_S4096_n_0_n_n_0_1_1 rfl rfl rfl rfl _ p hlt (hlt.trans (by decide)) (v25 C hf p))).trans ?_
  exact dst_at (isOrder C hf) p (v46 C hf ⟨_, hlt⟩) (v50 C hf ⟨_, hlt⟩)

/-- The picks' tokens along the order. -/
theorem v69 (p : Fin 4096) : (W 12 main_v69 : IVec S4096 32) (ix1 p) = BitVec.ofNat 32 (order W p.val / 2) := by
  have h18 : (W 11 main_v18 : IVec S4096 32) = W 2 main_v18 :=
    (C.k10 _ (by decide)).trans ((C.k9 _ (by decide)).trans ((C.k8 _ (by decide)).trans ((C.k7 _ (by decide)).trans ((C.k6 _ (by decide)).trans
      ((C.k5 _ (by decide)).trans ((C.k4 _ (by decide)).trans ((C.k3 _ (by decide)).trans (C.k2 _ (by decide)))))))))
  have h20 : (W 11 main_c_20 : IVec S_ 32) = constantI S_ 32 2#32 := by rw [C.s10]; exact read_c20 _
  have hlt := (isOrder C hf).lt p.val p.isLt
  rw [C.s11, read_v69, h18, h20]
  exact pyDiv_ap bcast_S_S4096 _ _ (ix1 p) (a := order W p.val) (b := 2) (v18 C hf p) rfl (by omega) (by omega) (by omega)

/-- A token's row in the segment of one of its experts. -/
theorem v76 (p : Fin 4096) (x : Fin 5120) (hx : x.val = dst (pick f) (order W) p.val) :
    (W 13 main_v76 : IVec S5120 32) (ix1 x) = BitVec.ofNat 32 (order W p.val / 2) := by
  have h67 : (W 12 main_v67 : IVec S4096 32) = W 11 main_v67 := C.k11 _ (by decide)
  have hO := isOrder C hf
  have hl : ∀ q : Fin 4096, dst (pick f) (order W) q.val < 2 ^ 31 := fun q => (dst_lt hO q.isLt (pick_lt f _)).trans (by decide)
  rw [C.s12, read_v76, h67]
  exact (put_hit scatter_S5120_S4096x1_S4096_n_0_0_1 rfl rfl rfl _ (dst (pick f) (order W)) (fun q => col_at _ _ _ _ q (v67 C hf q) (hl q)) hl _ _ p x
    hx.symm fun q hq => Fin.ext (dst_inj hO q.isLt p.isLt hq)).trans (v69 C hf p)

/-- A pick's row: the word the second launch reads. -/
theorem v104 (p : Fin 4096) (j : Fin 4096) (hj : j.val = order W p.val) :
    (W 13 main_v104 : IVec S4096 32) (ix1 j) = BitVec.ofNat 32 (dst (pick f) (order W) p.val) := by
  have h67 : (W 12 main_v67 : IVec S4096 32) = W 11 main_v67 := C.k11 _ (by decide)
  have h18 : (W 12 main_v18 : IVec S4096 32) = W 2 main_v18 :=
    (C.k11 _ (by decide)).trans ((C.k10 _ (by decide)).trans ((C.k9 _ (by decide)).trans ((C.k8 _ (by decide)).trans ((C.k7 _ (by decide)).trans
      ((C.k6 _ (by decide)).trans ((C.k5 _ (by decide)).trans ((C.k4 _ (by decide)).trans ((C.k3 _ (by decide)).trans (C.k2 _ (by decide))))))))))
  have hO := isOrder C hf
  have hl : ∀ q : Fin 4096, order W q.val < 2 ^ 31 := fun q => (hO.lt _ q.isLt).trans (by decide)
  rw [C.s12, read_v104, h67, h18]
  exact (put_hit scatter_S4096_S4096x1_S4096_n_0_0_1 rfl rfl rfl _ (order W) (fun q => col_at _ _ _ _ q (v18 C hf q) (hl q)) hl _ _ p j
    hj.symm fun q hq => Fin.ext (hO.inj _ q.isLt _ p.isLt hq)).trans (v67 C hf p)

/-- The rows gathered for the first launch: a pick's row is its token's row of the input. -/
theorem v111 (p : Fin 4096) (x : Fin 5120) (hx : x.val = dst (pick f) (order W) p.val) (t : Fin 2048) (ht : t.val = order W p.val / 2) (y : Fin 1024) :
    (W 13 main_v111 : Vec F S5120x1024 .f32) (ix2 x y) = (W 12 main_arg0 : Vec F S2048x1024 .f32) (ix2 t y) := by
  have h76 : (after hostOps0_12 (W 12) main_v76 : IVec S5120 32) = W 13 main_v76 := by rw [C.s12]
  have hv := v76 C hf p x hx
  rw [← ht] at hv
  rw [C.s12, read_v111, h76]
  exact gather_row gather_S2048x1024_S5120x1_S5120x1024_1_0_n_n_0_1_11024 rfl rfl rfl rfl rfl _ _ x y t
    (col_at _ _ _ _ x hv (t.isLt.trans (by decide))) (by decide)

/-- A block's expert word. -/
theorem v96_expert (b : Fin 40) : (W 13 main_v96 : IVec S40x2 32) (ix2 b (0 : Fin 2))
    = BitVec.ofNat 32 (min (Nat.count (fun k => seg (pick f) k + padded (pick f) k ≤ b.val * 128) 8) 7) := by
  have h46 : (W 12 main_v46 : IVec S8 32) = W 9 main_v46 :=
    (C.k11 _ (by decide)).trans ((C.k10 _ (by decide)).trans (C.k9 _ (by decide)))
  have h42 : (W 12 main_v42 : IVec S8 32) = W 7 main_v42 :=
    (C.k11 _ (by decide)).trans ((C.k10 _ (by decide)).trans ((C.k9 _ (by decide)).trans ((C.k8 _ (by decide)).trans (C.k7 _ (by decide)))))
  rw [C.s12, read_v96, h46, h42]
  refine (beside_left _ _ concatenates_S40x1_S40x1_S40x2_d1 b).trans ?_
  rw [bcCol]
  refine expert_at _ blockStarts_at _ (fun k => ?_) bcast_S40_S40x1_0 bcast_S40x1_S40x8_0_1 bcast_S8_S1x8_1 bcast_S1x8_S40x8_0_1 natLt_1_32
    reducesTo_S40x8_S40_d1 h_S_ bcast_S_S40 b
  rw [addi_ap, v46 C hf k, v42 C hf k, ← BitVec.ofNat_add]

/-- A block's used word. -/
theorem v96_used (b : Fin 40) (hb : b.val * 128 < seg (pick f) 8) : (W 13 main_v96 : IVec S40x2 32) (ix2 b (1 : Fin 2)) = 1#32 := by
  have h42 : (W 12 main_v42 : IVec S8 32) = W 7 main_v42 :=
    (C.k11 _ (by decide)).trans ((C.k10 _ (by decide)).trans ((C.k9 _ (by decide)).trans ((C.k8 _ (by decide)).trans (C.k7 _ (by decide)))))
  rw [C.s12, read_v96, h42]
  refine (beside_right _ _ concatenates_S40x1_S40x1_S40x2_d1 b).trans ?_
  rw [bcCol]
  exact used_at _ blockStarts_at _ (v42 C hf) reducesTo_S8_S_d0 h_S_ bcast_S_S40 natLt_1_32 b hb

end Facts

/-- What the host's routing leaves: pick `j` (token `j / 2`, place `j % 2`) has row `D j`; the row holds its token's
    input; the row's block is used and is for the pick's expert; every block's expert is one of the eight. -/
structure Routed (V : Valuation τ sig (Elt F)) (f : Fin 2048 → Fin 2 → Fin 8) (D : Fin 4096 → Fin 5120) : Prop where
  pos : ∀ j, (V main_v104 : IVec S4096 32) (ix1 j) = BitVec.ofNat 32 (D j).val
  row : ∀ (j : Fin 4096) (t : Fin 2048), t.val = j.val / 2 → ∀ y : Fin 1024,
    (V main_v111 : Vec F S5120x1024 .f32) (ix2 (D j) y) = (V main_arg0 : Vec F S2048x1024 .f32) (ix2 t y)
  expert : ∀ (j : Fin 4096) (b : Fin 40), b.val = (D j).val / 128 → (V main_v96 : IVec S40x2 32) (ix2 b (0 : Fin 2)) = BitVec.ofNat 32 (pick f j.val)
  used : ∀ (j : Fin 4096) (b : Fin 40), b.val = (D j).val / 128 → (V main_v96 : IVec S40x2 32) (ix2 b (1 : Fin 2)) = 1#32
  bound : ∀ b : Fin 40, ((V main_v96 : IVec S40x2 32) (ix2 b (0 : Fin 2))).toNat < 8

include C in
/-- The host's routing, whatever two experts each token's top two name. -/
theorem routed {f : Fin 2048 → Fin 2 → Fin 8} (hf : Picks W f) : ∃ D, Routed (W 13) f D := by
  have hO := isOrder C hf
  choose p hp hs using hO.surj
  have hD : ∀ j : Fin 4096, dst (pick f) (order W) (p j.val j.isLt) < 5120 := fun j => dst_lt hO (hp _ _) (pick_lt f _)
  refine ⟨fun j => ⟨_, hD j⟩, fun j => v104 C hf ⟨_, hp j.val j.isLt⟩ j (hs j.val j.isLt).symm, fun j t ht y => ?_, fun j b hb => ?_,
    fun j b hb => v96_used C hf b ?_, fun b => ?_⟩
  · rw [C.k12 main_arg0 (by decide)]
    exact v111 C hf ⟨_, hp j.val j.isLt⟩ _ rfl t (by rw [ht]; exact congrArg (· / 2) (hs j.val j.isLt).symm) y
  · rw [v96_expert C hf b, hb, block_count hO (hp _ _) (pick_lt f _), hs j.val j.isLt]
    exact congrArg _ (Nat.min_eq_left (Nat.le_of_lt_succ (pick_lt f _)))
  · rw [hb]
    exact block_used hO (hp _ _) (pick_lt f _)
  · rw [v96_expert C hf b, BitVec.toNat_ofNat]
    exact (Nat.mod_le _ _).trans_lt (Nat.lt_succ_of_le (Nat.min_le_right _ _))

end Cert.Proof.KernelIdeal
end
-- ==== Proof.KI.Tables.lean ====
/- The two launches' tables are good, whatever the arguments. -/
module

public import proofs.«01_k».proof.Proof.KI.HostFacts

@[expose] public section

set_option maxRecDepth 4096

noncomputable section

namespace Cert.Proof.KernelIdeal

open Cert.KernelIdeal Cert.KernelIdeal.Gen
open Idealize.ShloMosaic Idealize.ShloMosaic.TcCoe Idealize.ShloMosaic.StableHlo
open Idealize.ShloMosaic.Routing Idealize.ShloMosaic.ValueIdx
open Cert.Proof.Words Cert.Proof.Route Cert.Proof.Plan

variable {F : FTy → Type} [FloatOps F] (m : (ℓ : Loc nD τ sig) → Buf (Elt F) ℓ)

/-- The buffers before and after each stretch, by number. -/
def Vat (c : Dev nD) : ℕ → Valuation τ sig (Elt F)
  | 0 => V0 m c
  | 1 => V1 m c
  | 2 => V2 m c
  | 3 => V3 m c
  | 4 => V4 m c
  | 5 => V5 m c
  | 6 => V6 m c
  | 7 => V7 m c
  | 8 => V8 m c
  | 9 => V9 m c
  | 10 => V10 m c
  | 11 => V11 m c
  | 12 => V12 m c
  | _ => Vpre m c

theorem chain (c : Dev nD) : Chain (Vat m c) :=
  ⟨rfl, rfl, rfl, rfl, rfl, rfl, rfl, rfl, rfl, rfl, rfl, rfl, Vpre_eq m c⟩

/-- The picks' experts: distinct, named by the index words; the picked scores are the experts' scores. -/
structure Top (f : Fin 2048 → Fin 2 → Fin 8) (x : Vec F S2048x1024 .f32) (g : Vec F S8x1024 .f32) : Prop where
  inj : ∀ t, Function.Injective (f t)
  index : ∀ t q, (top x g).2 (ix2 t q) = BitVec.ofNat 32 (f t q).val
  score : ∀ t q, (top x g).1 (ix2 t q) = scores x g (ix2 t (f t q))

theorem exists_top (x : Vec F S2048x1024 .f32) (g : Vec F S8x1024 .f32) : ∃ f, Top f x g := by
  obtain ⟨f, h1, h2, h3⟩ := topK_indices (FloatOps.cmpfTotal (F := F) (φ := .f32) .gt) (scores x g) sliceFits_S2048x8_S2048x2 (by decide)
  exact ⟨f, h1, h2, h3⟩

/-- What the host's routing leaves at the first launch. -/
theorem routed_pre (c : Dev nD) {f : Fin 2048 → Fin 2 → Fin 8} (hf : Top f (m ((c : Thread nD τ).loc main_arg0)) (m ((c : Thread nD τ).loc main_arg1))) :
    ∃ D, Routed (Vpre m c) f D :=
  routed (chain m c) (f := f) fun t q => by
    have h := read_indices (V0 m c)
    exact (congrFun h _).trans (hf.index t q)

/-- A step's row block. -/
abbrev blockOf (i : grid0.Coords) : Fin 40 := i 0

/-- A step's place along the hidden axis. -/
abbrev laneOf (i : grid0.Coords) : Fin 4 := i 1

/-- The word the weights' index maps read: the expert of the step's row block. -/
theorem word_at (pf : pre0.Contents (Elt F)) (i : grid0.Coords) :
    pf.at 0 (Rect.unit (s := S40x2) (k0_off1 i) S1x1.size (k0_off1_inb i)) numel1_S1x1 = (pf 0 : IVec S40x2 32) (ix2 (blockOf i) (0 : Fin 2)) := by
  refine congrArg (pf 0 : IVec S40x2 32) (funext fun a => Fin.ext ?_)
  have h0 : ∀ n : Fin 40, (Scalar.indexCast (BitVec.ofNat 32 n.val) : BitVec 32).toNat = n.val := by decide
  match a with
  | ⟨0, _⟩ => exact h0 (blockOf i)
  | ⟨1, _⟩ => rfl

theorem transform_1_at (pf : pre0.Contents (Elt F)) (i : grid0.Coords) : cc0_transform_1 k0_off1_inb numel1_S1x1 pf i
    = ![((pf 0 : IVec S40x2 32) (ix2 (blockOf i) (0 : Fin 2))).toNat, (laneOf i).val, 0] := by
  have h1 : ∀ n : Fin 4, (BitVec.ofNat 32 n.val).toNat = n.val := by decide
  rw [← word_at pf i, ← h1 (laneOf i)]
  rfl

theorem transform_2_at (pf : pre0.Contents (Elt F)) (i : grid0.Coords) : cc0_transform_2 k0_off1_inb numel1_S1x1 pf i
    = ![((pf 0 : IVec S40x2 32) (ix2 (blockOf i) (0 : Fin 2))).toNat, (laneOf i).val, 0] := by
  have h1 : ∀ n : Fin 4, (BitVec.ofNat 32 n.val).toNat = n.val := by decide
  rw [← word_at pf i, ← h1 (laneOf i)]
  rfl

theorem transform_3_at (pf : pre0.Contents (Elt F)) (i : grid0.Coords) : cc0_transform_3 k0_off1_inb numel1_S1x1 pf i
    = ![((pf 0 : IVec S40x2 32) (ix2 (blockOf i) (0 : Fin 2))).toNat, 0, (laneOf i).val] := by
  have h1 : ∀ n : Fin 4, (BitVec.ofNat 32 n.val).toNat = n.val := by decide
  rw [← word_at pf i, ← h1 (laneOf i)]
  rfl

/-- A table whose experts are all of the eight names blocks inside the weights. -/
theorem ok0_of_bound (pf : pre0.Contents (Elt F)) (h : ∀ b : Fin 40, ((pf 0 : IVec S40x2 32) (ix2 b (0 : Fin 2))).toNat < 8) : ok0 pf := by
  have hA : ∀ (i : grid0.Coords) (a : Fin 3), (![((pf 0 : IVec S40x2 32) (ix2 (blockOf i) (0 : Fin 2))).toNat, (laneOf i).val, 0] a + 1) * S1x512x1024.size a
      ≤ S8x2048x1024.size a := fun i a => by
    have hb := h (blockOf i)
    have hl := (laneOf i).isLt
    generalize ((pf 0 : IVec S40x2 32) (ix2 (blockOf i) (0 : Fin 2))).toNat = w at hb
    generalize (laneOf i).val = l at hl
    match a with
    | ⟨0, _⟩ => show (w + 1) * 1 ≤ 8; omega
    | ⟨1, _⟩ => show (l + 1) * 512 ≤ 2048; omega
    | ⟨2, _⟩ => show (0 + 1) * 1024 ≤ 1024; omega
  have hB : ∀ (i : grid0.Coords) (a : Fin 3), (![((pf 0 : IVec S40x2 32) (ix2 (blockOf i) (0 : Fin 2))).toNat, 0, (laneOf i).val] a + 1) * S1x1024x512.size a
      ≤ S8x1024x2048.size a := fun i a => by
    have hb := h (blockOf i)
    have hl := (laneOf i).isLt
    generalize ((pf 0 : IVec S40x2 32) (ix2 (blockOf i) (0 : Fin 2))).toNat = w at hb
    generalize (laneOf i).val = l at hl
    match a with
    | ⟨0, _⟩ => show (w + 1) * 1 ≤ 8; omega
    | ⟨1, _⟩ => show (0 + 1) * 1024 ≤ 1024; omega
    | ⟨2, _⟩ => show (l + 1) * 512 ≤ 2048; omega
  refine ⟨fun i => ⟨fun a => ?_, Or.inl rfl⟩, fun i => ⟨fun a => ?_, Or.inl rfl⟩, fun i => ⟨fun a => ?_, Or.inl rfl⟩⟩
  · rw [transform_1_at]
    exact hA i a
  · rw [transform_2_at]
    exact hA i a
  · rw [transform_3_at]
    exact hB i a

/-- The tables are good. -/
theorem tabOk : TabOk m := by
  obtain ⟨f, hf⟩ := exists_top (m (((0 : Dev nD) : Thread nD τ).loc main_arg0)) (m (((0 : Dev nD) : Thread nD τ).loc main_arg1))
  obtain ⟨D, hD⟩ := routed_pre m 0 hf
  refine ⟨ok0_of_bound _ hD.bound, fun x => ?_⟩
  obtain ⟨j, rfl⟩ : ∃ j : Fin 4096, x = ix1 j := ⟨x 0, eq_ix1 x⟩
  rw [show (tab1 m 0 (ix1 j) : BitVec 32) = _ from hD.pos j, BitVec.toNat_ofNat]
  exact (Nat.mod_le _ _).trans_lt (D j).isLt

end Cert.Proof.KernelIdeal
end
-- ==== Proof.Frames.lean ====
/- The frames: each program runs to the end, its arguments unchanged and every semaphore counter back at zero. -/
module

public import proofs.«01_k».proof.Defs
public import proofs.«01_k».proof.Proof.K.Tables
public import proofs.«01_k».proof.Proof.KI.Tables
public import proofs.«01_k».proof.Proof.Gen.ReferenceIdeal.Run

@[expose] public section

noncomputable section

namespace Cert.Proof

open Idealize.ShloMosaic Idealize.SL.Sem

/-- The kernel as printed runs, its arguments end unchanged, its counters end at zero. -/
theorem frame_kernel : Cert.quiescent_Kernel (hKernel := Cert.Kernel.Gen.facts) := fun m g _ =>
  (θ_run _ _ _).mono (fun _ hr => ⟨fun c => (hr.1 c).2, hr.2⟩) (Kernel.run_main m (Kernel.tabOk m) g)

/-- The kernel over extended reals runs, its arguments end unchanged, its counters end at zero. -/
theorem frame_kernelIdeal : Cert.quiescent_KernelIdeal (hKernelIdeal := Cert.KernelIdeal.Gen.facts) := fun m g _ =>
  (θ_run _ _ _).mono (fun _ hr => ⟨fun c => (hr.1 c).2, hr.2⟩) (KernelIdeal.run_main m (KernelIdeal.tabOk m) g)

/-- The reference has no semaphore. -/
theorem no_sem (s : SemLoc Cert.ReferenceIdeal.sig) : False := by
  match s with
  | .reg s => exact nomatch s
  | .dma s => exact nomatch s

/-- The reference over extended reals runs, its arguments end unchanged; it has no counter. -/
theorem frame_referenceIdeal : Cert.quiescent_ReferenceIdeal (hReferenceIdeal := Cert.ReferenceIdeal.Gen.facts) := fun m g _ =>
  (θ_run _ _ _).mono (fun _ hr => ⟨fun c => (hr c).2, funext fun s => (no_sem s.2).elim⟩) (Cert.ReferenceIdeal.Value.run m g)

end Cert.Proof
end
-- ==== Proof.KI.Value.lean ====
/- The first launch's result over the extended reals: every row that a pick was put in holds its token's output of the
   pick's expert. -/
module

public import proofs.«01_k».proof.Proof.KI.Tables
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe
open Idealize.ShloMosaic.Pipeline (Dat Cfg Window)

/-- One hidden activation of a token `x`, from its gate row and its up row. -/
def act (x g u : Fin 1024 → EReal) : EReal :=
  (∑ k, x k * g k) * Ideal.logistic (∑ k, x k * g k) * ∑ k, x k * u k

/-- One hidden entry's share of an output of expert `e`. -/
def share (x : Fin 1024 → EReal) (g u : FVec Ideal S8x2048x1024 .f32) (d : FVec Ideal S8x1024x2048 .f32) (e : Fin 8) (y : Fin 1024) (f : Fin 2048) : EReal :=
  act x (fun k => g (ix3 e f k)) (fun k => u (ix3 e f k)) * d (ix3 e y f)

/-- Output `y` of expert `e` on a token. -/
def ffn (x : Fin 1024 → EReal) (g u : FVec Ideal S8x2048x1024 .f32) (d : FVec Ideal S8x1024x2048 .f32) (e : Fin 8) (y : Fin 1024) : EReal :=
  ∑ f : Fin 2048, share x g u d e y f

/-- Hidden entry `q` of chunk `l`. -/
def hid (l : Fin 4) (q : Fin 512) : Fin 2048 := ⟨512 * l.val + q.val, by have := l.isLt; have := q.isLt; omega⟩

/-- Step `l` of row block `b`. -/
def stepAt (b : Fin 40) (l : Fin 4) : Fin grid0.N := ⟨4 * b.val + l.val, by
  have : grid0.N = 160 := by decide
  have := b.isLt; have := l.isLt; omega⟩

/-- The first payload of the grouped product is zero everywhere. -/
theorem pay1_at (r : Fin 128) (y : Fin 1024) : (k0_pay1 (F := Ideal) : FVec Ideal S128x1024 .f32) (ix2 r y) = (0 : EReal) := by
  pointwise [k0_pay1]

/-- A used step adds, to each entry, its chunk of the hidden entries' shares. -/
theorem pay2_at (x : FVec Ideal S128x1024 .f32) (g u : FVec Ideal S1x512x1024 .f32) (d : FVec Ideal S1x1024x512 .f32) (o : FVec Ideal S128x1024 .f32)
    (r : Fin 128) (y : Fin 1024) :
    (k0_pay2 (F := Ideal) x g u d o : FVec Ideal S128x1024 .f32) (ix2 r y) = o (ix2 r y)
      + ∑ q : Fin 512, act (fun k => x (ix2 r k)) (fun k => g (ix3 0 q k)) (fun k => u (ix3 0 q k)) * d (ix3 0 y q) := by
  pointwise [k0_pay2, act]

section Blocks
variable (a : (pcfg0 (F := Ideal)).Adm) (W : Dev nD → Valuation τ sig (Elt Ideal))

/-- Step `t` of the grouped product is lane `t % 4` of block `t / 4`. -/
theorem coords0 : ∀ t : Fin grid0.N, (blockOf (grid0.coords t)).val = t.val / 4 ∧ (laneOf (grid0.coords t)).val = t.val % 4 := by decide +kernel

/-- The rows' window stays on the step's block. -/
theorem index0_0 (t : Fin grid0.N) : ((pcfg0 (F := Ideal)).win a 0).index t = ![t.val / 4, 0] :=
  (by decide +kernel : ∀ t : Fin grid0.N, cc0_transform_0 (grid0.coords t) = ![t.val / 4, 0]) t
/-- The result's window stays on the step's block. -/
theorem index0_4 (t : Fin grid0.N) : ((pcfg0 (F := Ideal)).win a 4).index t = ![t.val / 4, 0] :=
  (by decide +kernel : ∀ t : Fin grid0.N, cc0_transform_4 (grid0.coords t) = ![t.val / 4, 0]) t

variable (t : Fin grid0.N) (b : Fin 40) (hb : b.val = t.val / 4) (e : Fin 8)
  (he : (a.1 0 : IVec S40x2 32) (ix2 b (0 : Fin 2)) = BitVec.ofNat 32 e.val)
include hb he

/-- The word of the step's row block is its expert. -/
theorem word0 : ((a.1 0 : IVec S40x2 32) (ix2 (blockOf (grid0.coords t)) (0 : Fin 2))).toNat = e.val := by
  obtain rfl : blockOf (grid0.coords t) = b := Fin.ext ((coords0 t).1.trans hb.symm)
  rw [he, BitVec.toNat_ofNat, Nat.mod_eq_of_lt (by have := e.isLt; omega)]

/-- The gate window is at the block's expert and the step's lane. -/
theorem index0_1 : ((pcfg0 (F := Ideal)).win a 1).index t = ![e.val, t.val % 4, 0] := by
  rw [← (coords0 t).2, ← word0 a t b hb e he]
  exact transform_1_at a.1 (grid0.coords t)
/-- The up window is at the block's expert and the step's lane. -/
theorem index0_2 : ((pcfg0 (F := Ideal)).win a 2).index t = ![e.val, t.val % 4, 0] := by
  rw [← (coords0 t).2, ← word0 a t b hb e he]
  exact transform_2_at a.1 (grid0.coords t)
/-- The down window is at the block's expert and the step's lane. -/
theorem index0_3 : ((pcfg0 (F := Ideal)).win a 3).index t = ![e.val, 0, t.val % 4] := by
  rw [← (coords0 t).2, ← word0 a t b hb e he]
  exact transform_3_at a.1 (grid0.coords t)

omit hb he in
/-- The rows' block at an index. -/
theorem blk0_0_at (c : Dev nD) (r : Fin 128) (k : Fin 1024) (R : Fin 5120) (hR : R.val = 128 * (t.val / 4) + r.val) :
    (blk0 a W c 0 t : FVec Ideal S128x1024 .f32) (ix2 r k) = (W c main_v111 : FVec Ideal S5120x1024 .f32) (ix2 R k) := by
  blk_point [blk0, index0_0 a t]
/-- The gate block at an index. -/
theorem blk0_1_at (c : Dev nD) (q : Fin 512) (k : Fin 1024) (R : Fin 2048) (hR : R.val = 512 * (t.val % 4) + q.val) :
    (blk0 a W c 1 t : FVec Ideal S1x512x1024 .f32) (ix3 0 q k) = (W c main_arg2 : FVec Ideal S8x2048x1024 .f32) (ix3 e R k) := by
  blk_point [blk0, index0_1 a t b hb e he]
/-- The up block at an index. -/
theorem blk0_2_at (c : Dev nD) (q : Fin 512) (k : Fin 1024) (R : Fin 2048) (hR : R.val = 512 * (t.val % 4) + q.val) :
    (blk0 a W c 2 t : FVec Ideal S1x512x1024 .f32) (ix3 0 q k) = (W c main_arg3 : FVec Ideal S8x2048x1024 .f32) (ix3 e R k) := by
  blk_point [blk0, index0_2 a t b hb e he]
/-- The down block at an index. -/
theorem blk0_3_at (c : Dev nD) (q : Fin 512) (y : Fin 1024) (R : Fin 2048) (hR : R.val = 512 * (t.val % 4) + q.val) :
    (blk0 a W c 3 t : FVec Ideal S1x1024x512 .f32) (ix3 0 y q) = (W c main_arg4 : FVec Ideal S8x1024x2048 .f32) (ix3 e y R) := by
  blk_point [blk0, index0_3 a t b hb e he]

variable (hu : (a.1 0 : IVec S40x2 32) (ix2 b (1 : Fin 2)) = 1#32)
include hu

omit he in
/-- The word the body reads says the block is used. -/
theorem used0 (c : Dev nD) : usedWord (F := Ideal) c (grid0.coords t) (Memref.whole main_v96) (a.1 0) = 1#32 := by
  rw [usedWord_eq a]
  have h : ∀ b : Fin 2, k0_off2 (grid0.coords t) b + 1 ≤ S40x2.size b := fun b => by
    match b with
    | 0 => exact k0_off2_inb (grid0.coords t) 0
    | 1 => exact k0_off2_inb (grid0.coords t) 1
  refine (dif_pos h).trans (Eq.trans ?_ hu)
  refine congrArg (a.1 0 : IVec S40x2 32) (funext fun x => Fin.ext ?_)
  have h0 : ∀ n : Fin 40, (Scalar.indexCast (BitVec.ofNat 32 n.val) : BitVec 32).toNat = n.val := by decide
  match x with
  | ⟨0, _⟩ => exact (h0 (blockOf (grid0.coords t))).trans ((coords0 t).1.trans hb.symm)
  | ⟨1, _⟩ => rfl

/-- What a used step leaves: what it found, nothing at the first of a row block, and its chunk's shares. -/
theorem step0_at (c : Dev nD) (o : FVec Ideal S128x1024 .f32) (l : Fin 4) (hl : l.val = t.val % 4) (r : Fin 128) (y : Fin 1024)
    (R : Fin 5120) (hR : R.val = 128 * b.val + r.val) :
    (step0 a W c t o : FVec Ideal S128x1024 .f32) (ix2 r y) = (if l = 0 then (0 : EReal) else o (ix2 r y))
      + ∑ q : Fin 512, share (fun k => (W c main_v111 : FVec Ideal S5120x1024 .f32) (ix2 R k)) (W c main_arg2) (W c main_arg3) (W c main_arg4) e y (hid l q) := by
  unfold step0 ffnStep
  rw [used0 a t b hb hu c, if_pos (show k0_cond2 1#32 = 1#1 by decide), pay2_at]
  refine congrArg₂ (· + ·) ?_ (Finset.sum_congr rfl fun q _ => ?_)
  · by_cases h : l = 0
    · rw [if_pos h, if_pos ((cond1_iff t).2 (by rw [← hl, h]; rfl))]
      exact pay1_at r y
    · rw [if_neg h, if_neg (mt (cond1_iff t).1 fun h' => h (Fin.ext (hl.trans h')))]
  · have hf : (hid l q).val = 512 * (t.val % 4) + q.val := by rw [← hl]; rfl
    unfold share
    rw [blk0_3_at a W t b hb e he c q y (hid l q) hf]
    simp only [blk0_0_at a W t c r _ R (by rw [hR, hb]), blk0_1_at a W t b hb e he c q _ (hid l q) hf, blk0_2_at a W t b hb e he c q _ (hid l q) hf]

end Blocks

section Rows
variable (a : (pcfg0 (F := Ideal)).Adm) (W : Dev nD → Valuation τ sig (Elt Ideal)) (c : Dev nD) (b : Fin 40) (e : Fin 8)
  (he : (a.1 0 : IVec S40x2 32) (ix2 b (0 : Fin 2)) = BitVec.ofNat 32 e.val) (hu : (a.1 0 : IVec S40x2 32) (ix2 b (1 : Fin 2)) = 1#32)
  (r : Fin 128) (y : Fin 1024) (R : Fin 5120) (hR : R.val = 128 * b.val + r.val)

include he hu hR

/-- The result's buffer after step `l` of a used row block, from the step before. -/
theorem acc0_step (l : Fin 4) :
    (acc0 a W c (stepAt b l).val (stepAt b l).isLt : FVec Ideal S128x1024 .f32) (ix2 r y)
      = (if l = 0 then (0 : EReal) else (acc0 a W c ((stepAt b l).val - 1) (Nat.lt_of_le_of_lt (Nat.sub_le _ _) (stepAt b l).isLt) : FVec Ideal S128x1024 .f32) (ix2 r y))
        + ∑ q : Fin 512, share (fun k => (W c main_v111 : FVec Ideal S5120x1024 .f32) (ix2 R k)) (W c main_arg2) (W c main_arg3) (W c main_arg4) e y (hid l q) := by
  have hb : b.val = (stepAt b l).val / 4 := by have := l.isLt; show b.val = (4 * b.val + l.val) / 4; omega
  have hl : l.val = (stepAt b l).val % 4 := by have := l.isLt; show l.val = (4 * b.val + l.val) % 4; omega
  by_cases h0 : (stepAt b l).val = 0
  · have hl0 : l = 0 := Fin.ext (by rw [hl, h0]; rfl)
    have hs : acc0 a W c (stepAt b l).val (stepAt b l).isLt = step0 a W c (stepAt b l) (k0_pay1 (F := Ideal)) := by
      generalize stepAt b l = t at h0
      obtain ⟨n, hn⟩ := t
      simp only at h0
      subst h0
      rfl
    rw [hs, step0_at a W (stepAt b l) b hb e he hu c _ l hl r y R hR, if_pos hl0, if_pos hl0]
  · rw [acc0_succ a W c (stepAt b l) h0, step0_at a W (stepAt b l) b hb e he hu c _ l hl r y R hR]

/-- At the end of a used row block, each entry is its row's output of the block's expert. -/
theorem acc0_ffn :
    (acc0 a W c (stepAt b 3).val (stepAt b 3).isLt : FVec Ideal S128x1024 .f32) (ix2 r y)
      = ffn (fun k => (W c main_v111 : FVec Ideal S5120x1024 .f32) (ix2 R k)) (W c main_arg2) (W c main_arg3) (W c main_arg4) e y := by
  have h0 := acc0_step a W c b e he hu r y R hR 0
  have h1 := acc0_step a W c b e he hu r y R hR 1
  have h2 := acc0_step a W c b e he hu r y R hR 2
  have h3 := acc0_step a W c b e he hu r y R hR 3
  rw [if_pos rfl, zero_add] at h0
  rw [if_neg (by decide)] at h1 h2 h3
  have hc : ∀ (n n' : ℕ) (h : n < grid0.N) (h' : n' < grid0.N), n = n' → acc0 a W c n h = acc0 a W c n' h' := fun n n' h h' e => by subst e; rfl
  rw [hc ((stepAt b 1).val - 1) (stepAt b 0).val _ (stepAt b 0).isLt rfl, h0] at h1
  rw [hc ((stepAt b 2).val - 1) (stepAt b 1).val _ (stepAt b 1).isLt rfl, h1] at h2
  rw [hc ((stepAt b 3).val - 1) (stepAt b 2).val _ (stepAt b 2).isLt rfl, h2] at h3
  refine h3.trans ?_
  have hs : ∀ f : Fin 2048 → EReal, ∑ l, f l = ∑ l : Fin 4, ∑ q : Fin 512, f (hid l q) := fun f =>
    (Fin.sum_mul_add_congr (S := 4) (n := 512) fun l q hl => congrArg f (Fin.ext (congrArg (· + q.val) (Nat.mul_comm _ _)))).symm
  refine Eq.trans ?_ (hs _).symm
  rw [Fin.sum_univ_four]

end Rows

section Result
variable (a : (pcfg0 (F := Ideal)).Adm) (W : Dev nD → Valuation τ sig (Elt Ideal)) (c : Dev nD) (b : Fin 40)
  (r : Fin 128) (y : Fin 1024) (R : Fin 5120) (hR : R.val = 128 * b.val + r.val)

/-- Two steps that write the same block of the result back are one. -/
theorem disj0 (t t' : Fin grid0.N) (hf : ((cfg0 a).win 4).flush t = true) (hf' : ((cfg0 a).win 4).flush t' = true)
    (h : ((cfg0 a).win 4).index t = ((cfg0 a).win 4).index t') : t = t' := by
  rw [flush0] at hf hf'
  have h1 := of_decide_eq_true hf
  have h2 := of_decide_eq_true hf'
  have h3 : t.val / 4 = t'.val / 4 := congrFun ((index0_4 a t).symm.trans (h.trans (index0_4 a t'))) 0
  exact Fin.ext (by omega)

include hR
/-- A row of the first launch's result is what the last step of its block left there. -/
theorem arr0_at : ((dat0 a W c).arrAt 4 (cfg0 a).N : FVec Ideal S5120x1024 .f32) (ix2 R y)
    = (acc0 a W c (stepAt b 3).val (stepAt b 3).isLt : FVec Ideal S128x1024 .f32) (ix2 r y) := by
  have hf : ((cfg0 a).win 4).flush (stepAt b 3) = true := (flush0 a _).trans (decide_eq_true (by show (4 * b.val + 3) % 4 = 3; omega))
  have h := (dat0 a W c).arrAt_emb_eq_flushed 4 (Pipeline.Window.hdisj_of_index_inj _ (disj0 a)) (stepAt b 3) hf (ix2 r y)
  have hb : (stepAt b 3).val / 4 = b.val := by show (4 * b.val + 3) / 4 = _; omega
  have hi := index0_4 a (stepAt b 3)
  rw [hb] at hi
  have he : (((cfg0 a).win 4).blk (stepAt b 3)).view.emb (ix2 r y) = ix2 R y := by
    blk_ext
    · exact (congrArg (· * 128 + r.val) (congrFun hi 0)).trans (by show b.val * 128 + r.val = R.val; omega)
    · exact (congrArg (· * 1024 + y.val) (congrFun hi 1)).trans (by show 0 * 1024 + y.val = y.val; omega)
  rw [he] at h
  refine h.trans ?_
  blk_simp
  rfl
end Result

section Combine
variable (a : (pcfg1 (F := Ideal)).Adm) (W : Dev nD → Valuation τ sig (Elt Ideal)) (c : Dev nD) (t : Fin grid1.N)

/-- The scores' window is at the step's tokens. -/
theorem index1_0 : ((pcfg1 (F := Ideal)).win a 0).index t = ![t.val, 0] :=
  (by decide +kernel : ∀ t : Fin grid1.N, cc1_transform_0 (grid1.coords t) = ![t.val, 0]) t
/-- The rows' window is all of them. -/
theorem index1_1 : ((pcfg1 (F := Ideal)).win a 1).index t = ![0, 0] :=
  (by decide +kernel : ∀ t : Fin grid1.N, cc1_transform_1 (grid1.coords t) = ![0, 0]) t
/-- The result's window is at the step's tokens. -/
theorem index1_2 : ((pcfg1 (F := Ideal)).win a 2).index t = ![t.val, 0] :=
  (by decide +kernel : ∀ t : Fin grid1.N, cc1_transform_2 (grid1.coords t) = ![t.val, 0]) t

/-- A step of the combination is its only coordinate. -/
theorem coords1 : ∀ t : Fin grid1.N, ((grid1.coords t 0 : Fin 8) : ℕ) = t.val := by decide +kernel

/-- Every step of the combination writes its block out. -/
theorem flush1 : ((cfg1 a).win 2).flush t = true := by
  rw [Pipeline.Window.flush_eq_flushF]
  exact (by decide +kernel : ∀ t : Fin grid1.N, (decide (t.val + 1 = grid1.N) || decide (∃ h : t.val + 1 < grid1.N,
    ∃ b, cc1_transform_2 (grid1.coords ⟨t.val + 1, h⟩) b ≠ cc1_transform_2 (grid1.coords t) b)) = true) t

/-- Two steps of the combination with one block are one step. -/
theorem disj1 (t t' : Fin grid1.N) (h : ((cfg1 a).win 2).index t = ((cfg1 a).win 2).index t') : t = t' :=
  Fin.ext (congrFun ((index1_2 a t).symm.trans (h.trans (index1_2 a t'))) 0)

/-- The scores' block at an index. -/
theorem blk1_0_at (r : Fin 256) (q : Fin 2) (T : Fin 2048) (hT : T.val = 256 * t.val + r.val) :
    (blk1 a W c 0 t : FVec Ideal S256x2 .f32) (ix2 r q) = (W c main_v16 : FVec Ideal S2048x2 .f32) (ix2 T q) := by
  blk_point [blk1, index1_0 a t]
/-- The rows' block at an index. -/
theorem blk1_1_at (R : Fin 5120) (y : Fin 1024) :
    (blk1 a W c 1 t : FVec Ideal S5120x1024 .f32) (ix2 R y) = (W c main_v112 : FVec Ideal S5120x1024 .f32) (ix2 R y) := by
  blk_point [blk1, index1_1 a t]

/-- A row of the second launch's result is what the step of its block left there. -/
theorem arr1_at (r : Fin 256) (y : Fin 1024) (T : Fin 2048) (hT : T.val = 256 * t.val + r.val) :
    ((dat1 a W c).arrAt 2 (cfg1 a).N : FVec Ideal S2048x1024 .f32) (ix2 T y)
      = combAt (F := Ideal) (grid1.coords t) (a.1 0) (blk1 a W c 0 t) (blk1 a W c 1 t) (ix2 r y) := by
  have h := (dat1 a W c).arrAt_emb_eq_flushed 2 (Pipeline.Window.hdisj_of_index_inj _ (fun t t' _ _ h => disj1 a t t' h)) t (flush1 a t) (ix2 r y)
  have hi := index1_2 a t
  have he : (((cfg1 a).win 2).blk t).view.emb (ix2 r y) = ix2 T y := by
    blk_ext
    · exact (congrArg (· * 256 + r.val) (congrFun hi 0)).trans (by show t.val * 256 + r.val = T.val; omega)
    · exact (congrArg (· * 1024 + y.val) (congrFun hi 1)).trans (by show 0 * 1024 + y.val = y.val; omega)
  rw [he] at h
  refine h.trans ?_
  blk_simp
  rfl
end Combine

end Cert.Proof.KernelIdeal
-- ==== Proof.Ref.lean ====
/- The reference's result, read at an entry: every token goes through every expert, and a table of the scaled scores, zero
   but at the two chosen experts, mixes what comes out. -/
module

public import proofs.«01_k».proof.Proof.KI.HostReads
public import proofs.«01_k».proof.Proof.Gen.ReferenceIdeal.Run
public import Idealize.ShloMosaic.Lib.Pipeline.ValueKit

@[expose] public section

set_option maxRecDepth 16384

noncomputable section

namespace Cert.Proof.ReferenceIdeal

open Cert.ReferenceIdeal Cert.ReferenceIdeal.Gen
open Idealize.ShloMosaic Idealize.ShloMosaic.TcCoe
open Cert.Proof.Plan (wrap wrap_at)

/-- Every token's projections by one matrix of every expert. -/
def proj (x : FVec Ideal S2048x1024 .f32) (g : FVec Ideal S8x2048x1024 .f32) : FVec Ideal S2048x8x2048 .f32 :=
  Host.dotGeneral (F := Ideal) dot_S2048x1024_S8x2048x1024_S2048x8x2048_1_2_0_01_n_n none x g

/-- Every token's hidden activations in every expert. -/
def hidden (x : FVec Ideal S2048x1024 .f32) (g u : FVec Ideal S8x2048x1024 .f32) : FVec Ideal S2048x8x2048 .f32 :=
  mulf (mulf (proj x g) (Host.divf (broadcastInDim S2048x8x2048 ![] bcast_S_S2048x8x2048 (constant S_ .f32 0x3F800000#32))
    (addf (broadcastInDim S2048x8x2048 ![] bcast_S_S2048x8x2048 (constant S_ .f32 0x3F800000#32)) (Host.exp (Host.negf (proj x g)))))) (proj x u)

/-- Every token's output of every expert. -/
def dense (x : FVec Ideal S2048x1024 .f32) (g u : FVec Ideal S8x2048x1024 .f32) (d : FVec Ideal S8x1024x2048 .f32) : FVec Ideal S2048x8x1024 .f32 :=
  transpose S2048x8x1024 [2, 0, 1] (Host.dotGeneral (F := Ideal) dot_S8x1024x2048_S2048x8x2048_S8x1024x2048_2_2_1_0_0_1 none d (hidden x g u))
    transposes_S8x1024x2048_S2048x8x1024_2_0_1

/-- Of each pick, its token's number. -/
def tokens : IVec S2048x1 32 := wrap bcast_S_S2048x1 2048#32 (broadcastInDim S2048x1 ![0] bcast_S2048_S2048x1_0 (iotaInDim S2048 32 0))

/-- Of each pick, its token's number and its expert's. -/
def places (idx : IVec S2048x2 32) : IVec S2048x2x2 32 :=
  concatenate S2048x2x2 2 [⟨S2048x2x1, broadcastInDim S2048x2x1 ![0, 1] bcast_S2048x2_S2048x2x1_0_1 (broadcastInDim S2048x2 ![0, 1] bcast_S2048x1_S2048x2_0_1 tokens)⟩,
    ⟨S2048x2x1, broadcastInDim S2048x2x1 ![0, 1] bcast_S2048x2_S2048x2x1_0_1 (wrap bcast_S_S2048x2 8#32 idx)⟩] concatenates_S2048x2x1_S2048x2x1_S2048x2x2_d2

/-- Each token's weight for every expert: what its picks of that expert weigh together. -/
def table (idx : IVec S2048x2 32) (w : FVec Ideal S2048x2 .f32) : FVec Ideal S2048x8 .f32 :=
  Host.scatterAdd scatter_S2048x8_S2048x2x2_S2048x2_n_01_01_2 (broadcastInDim S2048x8 ![] bcast_S_S2048x8 (constant S_ .f32 0x00000000#32)) (places idx) w

/-- Each token's experts' outputs, weighed and summed. -/
def mix (v : FVec Ideal S2048x8x1024 .f32) (w : FVec Ideal S2048x8 .f32) : FVec Ideal S2048x1024 .f32 :=
  Host.dotGeneral (F := Ideal) dot_S2048x8x1024_S2048x8_S2048x1024_1_1_2_n_0_0 none v w

/-- A projection at an index is a row's product with a matrix's row. -/
theorem proj_at (x : FVec Ideal S2048x1024 .f32) (g : FVec Ideal S8x2048x1024 .f32) (t : Fin 2048) (e : Fin 8) (f : Fin 2048) :
    proj x g (ix3 t e f) = ∑ k : Fin 1024, x (ix2 t k) * g (ix3 e f k) := by
  pointwise [proj]

/-- A hidden activation is the gate's projection, times its own sigmoid, times the other projection. -/
theorem hidden_at (x : FVec Ideal S2048x1024 .f32) (g u : FVec Ideal S8x2048x1024 .f32) (t : Fin 2048) (e : Fin 8) (f : Fin 2048) :
    hidden x g u (ix3 t e f) = proj x g (ix3 t e f) * Ideal.logistic (proj x g (ix3 t e f)) * proj x u (ix3 t e f) := by
  pointwise [hidden, Ideal.logistic]

/-- An expert's output at an index is the sum, over the hidden activations, of the down matrix's entry times the activation. -/
theorem dense_at (x : FVec Ideal S2048x1024 .f32) (g u : FVec Ideal S8x2048x1024 .f32) (d : FVec Ideal S8x1024x2048 .f32)
    (t : Fin 2048) (e : Fin 8) (y : Fin 1024) :
    dense x g u d (ix3 t e y) = ∑ f : Fin 2048, d (ix3 e y f) * hidden x g u (ix3 t e f) := by
  pointwise [dense]

/-- The mixture at an index is the sum, over the experts, of the output times the weight. -/
theorem mix_at (v : FVec Ideal S2048x8x1024 .f32) (w : FVec Ideal S2048x8 .f32) (t : Fin 2048) (y : Fin 1024) :
    mix v w (ix2 t y) = ∑ e : Fin 8, v (ix3 t e y) * w (ix2 t e) := by
  pointwise [mix]

/-- The token number of a token is the token. -/
theorem tokens_at (t : Fin 2048) : tokens (ix2 t 0) = BitVec.ofNat 32 t.val := by
  refine wrap_at _ _ _ _ ?_ (by have := t.isLt; omega)
  pointwise []

/-- The first part of a pick's place is its token. -/
theorem places_token (idx : IVec S2048x2 32) (t : Fin 2048) (q : Fin 2) : places idx (ix3 t q 0) = BitVec.ofNat 32 t.val := by
  unfold places
  rw [concatenate_pair_apply_left (s₁ := S2048x2x1) (s₂ := S2048x2x1) (t := S2048x2x2) 2 _ _ _ _ rfl (ix3 t q 0) (by
    intro b; match b with | ⟨0, _⟩ => rfl | ⟨1, _⟩ => rfl | ⟨2, _⟩ => rfl)]
  refine Eq.trans ?_ (tokens_at t)
  pointwise []

/-- The second part of a pick's place is its expert. -/
theorem places_expert (idx : IVec S2048x2 32) (t : Fin 2048) (q : Fin 2) {a : ℕ} (h : idx (ix2 t q) = BitVec.ofNat 32 a) (ha : a < 2 ^ 31) :
    places idx (ix3 t q 1) = BitVec.ofNat 32 a := by
  unfold places
  rw [concatenate_pair_apply_right (s₁ := S2048x2x1) (s₂ := S2048x2x1) (t := S2048x2x2) 2 _ _ _ _ rfl rfl (ix3 t q 0) (by
    intro b hb; match b with | ⟨0, _⟩ => rfl | ⟨1, _⟩ => rfl | ⟨2, _⟩ => exact absurd rfl hb) rfl]
  refine Eq.trans ?_ (wrap_at bcast_S_S2048x2 8#32 idx (ix2 t q) h ha)
  pointwise []

/-- A word of a small natural, read signed, is the natural. -/
theorem toInt_word {a : ℕ} (ha : a < 2 ^ 31) : (BitVec.ofNat 32 a).toInt = (a : ℤ) := by
  have e : (BitVec.ofNat 32 a).toNat = a := by rw [BitVec.toNat_ofNat, Nat.mod_eq_of_lt (by omega)]
  rw [BitVec.toInt_eq_toNat_of_lt (by omega), e]

/-- A token's weight for an expert is the sum of the weights of its picks of that expert. -/
theorem table_at (idx : IVec S2048x2 32) (w : FVec Ideal S2048x2 .f32) (f : Fin 2048 → Fin 2 → Fin 8)
    (hf : ∀ t q, idx (ix2 t q) = BitVec.ofNat 32 (f t q).val) (t : Fin 2048) (e : Fin 8) :
    table idx w (ix2 t e) = ∑ q : Fin 2, if f t q = e then w (ix2 t q) else 0 := by
  have key : ∀ (a : Fin 2048) (q : Fin 2), scatter_S2048x8_S2048x2x2_S2048x2_n_01_01_2.resultIdx? (ix2 a q) (places idx) = some (ix2 t e) ↔ a = t ∧ f a q = e := by
    intro a q
    refine (Routing.scatter_lands2 scatter_S2048x8_S2048x2x2_S2048x2_n_01_01_2 rfl rfl rfl (places idx) a q t e).trans ?_
    have h1 := places_token idx a q
    have h2 := places_expert idx a q (hf a q) (by have := (f a q).isLt; omega)
    have e1 := congrArg BitVec.toInt h1
    have e2 := congrArg BitVec.toInt h2
    rw [toInt_word (by have := a.isLt; omega)] at e1
    rw [toInt_word (by have := (f a q).isLt; omega)] at e2
    refine (and_congr (Eq.congr_left e1) (Eq.congr_left e2)).trans ?_
    rw [Int.natCast_inj, Int.natCast_inj, Fin.val_inj, Fin.val_inj]
  have h0 : broadcastInDim S2048x8 ![] bcast_S_S2048x8 (constant (F := Ideal) S_ .f32 0x00000000#32) (ix2 t e) = (0 : EReal) := by
    pointwise []
  unfold table
  show broadcastInDim S2048x8 ![] bcast_S_S2048x8 (constant (F := Ideal) S_ .f32 0x00000000#32) (ix2 t e)
      + ∑ j ∈ Finset.univ.filter (fun j => scatter_S2048x8_S2048x2x2_S2048x2_n_01_01_2.resultIdx? j (places idx) = some (ix2 t e)), w j = _
  rw [h0, zero_add, Finset.sum_filter]
  refine (ValueIdx.sum_idx2 _).trans ?_
  rw [Finset.sum_eq_single t]
  · exact Finset.sum_congr rfl fun q _ => if_congr ((key t q).trans (and_iff_right rfl)) rfl rfl
  · intro a _ ha
    exact Finset.sum_eq_zero fun q _ => if_neg fun h => ha ((key a q).1 h).1
  · exact fun h => absurd (Finset.mem_univ t) h

/-- The mixture by the table of two distinct picks is the two experts' outputs, each times its weight. -/
theorem mix_table (v : FVec Ideal S2048x8x1024 .f32) (idx : IVec S2048x2 32) (w : FVec Ideal S2048x2 .f32) (f : Fin 2048 → Fin 2 → Fin 8)
    (hf : ∀ t q, idx (ix2 t q) = BitVec.ofNat 32 (f t q).val) (t : Fin 2048) (hi : Function.Injective (f t)) (y : Fin 1024) :
    mix v (table idx w) (ix2 t y) = w (ix2 t 0) * v (ix3 t (f t 0) y) + w (ix2 t 1) * v (ix3 t (f t 1) y) := by
  have hne : f t 0 ≠ f t 1 := fun h => absurd (hi h) (by decide)
  have ht : ∀ e, table idx w (ix2 t e) = (if f t 0 = e then w (ix2 t 0) else 0) + (if f t 1 = e then w (ix2 t 1) else 0) := fun e => by
    rw [table_at idx w f hf t e, Fin.sum_univ_two]
  rw [mix_at, Finset.sum_eq_add_of_mem (f t 0) (f t 1) (Finset.mem_univ _) (Finset.mem_univ _) hne]
  · rw [ht, ht, if_pos rfl, if_pos rfl, if_neg hne, if_neg hne.symm, add_zero, zero_add]
    exact congrArg₂ (· + ·) (mul_comm (G := EReal) _ _) (mul_comm (G := EReal) _ _)
  · intro e _ he
    rw [ht, if_neg he.1.symm, if_neg he.2.symm, add_zero]
    exact mul_zero (M₀ := EReal) _

/-- The reference's result is the mixture, the gate's operations being the kernel's own. -/
theorem result_eq (m : (ℓ : Loc nD τ sig) → Buf (Elt Ideal) ℓ) (c : Dev nD) :
    Value.res_main_v41 m c
      = mix (dense (m (c.tc.loc main_arg0)) (m (c.tc.loc main_arg2)) (m (c.tc.loc main_arg3)) (m (c.tc.loc main_arg4)))
          (table (Cert.Proof.KernelIdeal.top (F := Ideal) (m (c.tc.loc main_arg0)) (m (c.tc.loc main_arg1))).2
            (Cert.Proof.KernelIdeal.weights (F := Ideal) (m (c.tc.loc main_arg0)) (m (c.tc.loc main_arg1)))) := by
  unfold Value.res_main_v41
  rfl

end Cert.Proof.ReferenceIdeal
-- ==== Proof.Algebraic.lean ====
/- Over the extended reals the kernel's result is the reference's: both are, at each token, its two experts' outputs, each
   times its scaled score. -/
module

public import proofs.«01_k».proof.Defs
public import proofs.«01_k».proof.Proof.KI.Value
public import proofs.«01_k».proof.Proof.Ref

@[expose] public section

set_option maxRecDepth 16384

noncomputable section

namespace Cert.Proof.KernelIdeal

open Cert.KernelIdeal Cert.KernelIdeal.Gen
open Idealize.ShloMosaic Idealize.ShloMosaic.TcCoe Idealize.ShloMosaic.StableHlo
open Cert.Proof.Plan

/-! ## What the launches find -/

section Entry
variable (m : (ℓ : Loc nD τ sig) → Buf (Elt Ideal) ℓ) (c : Dev nD)

/-- A buffer that no later stretch of host operations writes is at the first launch as the first stretch left it. -/
theorem vpre_first (r : Ref sig .tc) (h : r ∉ hostOps0_1_W ∧ r ∉ hostOps0_2_W ∧ r ∉ hostOps0_3_W ∧ r ∉ hostOps0_4_W ∧ r ∉ hostOps0_5_W
    ∧ r ∉ hostOps0_6_W ∧ r ∉ hostOps0_7_W ∧ r ∉ hostOps0_8_W ∧ r ∉ hostOps0_9_W ∧ r ∉ hostOps0_10_W ∧ r ∉ hostOps0_11_W ∧ r ∉ hostOps0_12_W) :
    Vpre m c r = after hostOps0 (V0 m c) r := by
  obtain ⟨h1, h2, h3, h4, h5, h6, h7, h8, h9, h10, h11, h12⟩ := h
  have C := chain m c
  show Vat m c 13 r = Vat m c 1 r
  rw [C.k12 r h12, C.k11 r h11, C.k10 r h10, C.k9 r h9, C.k8 r h8, C.k7 r h7, C.k6 r h6, C.k5 r h5, C.k4 r h4, C.k3 r h3, C.k2 r h2, C.k1 r h1]

/-- A buffer no host operation writes is at the first launch as it was at the start. -/
theorem vpre_start (r : Ref sig .tc) (h0 : r ∉ hostOps0_W) (h : r ∉ hostOps0_1_W ∧ r ∉ hostOps0_2_W ∧ r ∉ hostOps0_3_W ∧ r ∉ hostOps0_4_W ∧ r ∉ hostOps0_5_W
    ∧ r ∉ hostOps0_6_W ∧ r ∉ hostOps0_7_W ∧ r ∉ hostOps0_8_W ∧ r ∉ hostOps0_9_W ∧ r ∉ hostOps0_10_W ∧ r ∉ hostOps0_11_W ∧ r ∉ hostOps0_12_W) :
    Vpre m c r = m ((c : Thread nD τ).loc r) :=
  (vpre_first m c r h).trans (after_of_writes_sub hostOps0 _ hostOps0_writes h0)

/-- The first launch finds the tokens' rows as they were given. -/
theorem vpre_arg0 : Vpre m c main_arg0 = m ((c : Thread nD τ).loc main_arg0) := vpre_start m c _ (by decide) (by decide)
/-- The first launch finds the gate matrices as they were given. -/
theorem vpre_arg2 : Vpre m c main_arg2 = m ((c : Thread nD τ).loc main_arg2) := vpre_start m c _ (by decide) (by decide)
/-- The first launch finds the up matrices as they were given. -/
theorem vpre_arg3 : Vpre m c main_arg3 = m ((c : Thread nD τ).loc main_arg3) := vpre_start m c _ (by decide) (by decide)
/-- The first launch finds the down matrices as they were given. -/
theorem vpre_arg4 : Vpre m c main_arg4 = m ((c : Thread nD τ).loc main_arg4) := vpre_start m c _ (by decide) (by decide)
/-- The first launch finds the scaled scores of the given tokens and router. -/
theorem vpre_v16 : Vpre m c main_v16 = weights (F := Ideal) (m ((c : Thread nD τ).loc main_arg0)) (m ((c : Thread nD τ).loc main_arg1)) :=
  (vpre_first m c _ (by decide)).trans (read_v16 (V0 m c))

variable (h : TabOk m)

/-- The second launch finds the first one's result. -/
theorem vmid_v112 : Vmid m h c main_v112 = out112 m h c := Function.update_self (β := fun b : DevRef τ sig => b.ty.Contents (Elt Ideal)) _ _ _
/-- The second launch finds the scaled scores that the first one found. -/
theorem vmid_v16 : Vmid m h c main_v16 = Vpre m c main_v16 :=
  Function.update_of_ne (fun e => absurd (Proc.devRef_injective _ e) (by decide)) _ _

end Entry

/-! ## What the launches leave -/

section Result
variable (m : (ℓ : Loc nD τ sig) → Buf (Elt Ideal) ℓ) (h : TabOk m) (f : Fin 2048 → Fin 2 → Fin 8) (D : Fin 4096 → Fin 5120)
  (hD : Routed (Vpre m 0) f D)

/-- Pick `q` of token `t`. -/
def pickOf (t : Fin 2048) (q : Fin 2) : Fin 4096 := ⟨2 * t.val + q.val, by have := t.isLt; have := q.isLt; omega⟩

/-- The expert of pick `q` of token `t`. -/
theorem pick_pickOf (t : Fin 2048) (q : Fin 2) : pick f (pickOf t q).val = (f t q).val := by
  have hq := q.isLt
  unfold pick
  refine congrArg Fin.val (congrArg₂ f (Fin.ext ?_) (Fin.ext ?_))
  · show (2 * t.val + q.val) / 2 % 2048 = t.val
    have := t.isLt; omega
  · show (2 * t.val + q.val) % 2 = q.val
    omega

/-- Token `t`'s row. -/
abbrev rowAt (t : Fin 2048) : Fin 1024 → EReal := fun k => (m (((0 : Dev nD) : Thread nD τ).loc main_arg0) : FVec Ideal S2048x1024 .f32) (ix2 t k)

/-- A token's scaled score of its pick `q`. -/
abbrev scoreAt (t : Fin 2048) (q : Fin 2) : EReal := (Vpre m 0 main_v16 : FVec Ideal S2048x2 .f32) (ix2 t q)

include hD

/-- The row a pick was put in holds, after the first launch, its token's output of its expert. -/
theorem out112_at (t : Fin 2048) (q : Fin 2) (y : Fin 1024) :
    (out112 m h 0 : FVec Ideal S5120x1024 .f32) (ix2 (D (pickOf t q)) y)
      = ffn (rowAt m t) (m (((0 : Dev nD) : Thread nD τ).loc main_arg2)) (m (((0 : Dev nD) : Thread nD τ).loc main_arg3))
          (m (((0 : Dev nD) : Thread nD τ).loc main_arg4)) (f t q) y := by
  have hlt := (D (pickOf t q)).isLt
  let b : Fin 40 := ⟨(D (pickOf t q)).val / 128, by omega⟩
  let r : Fin 128 := ⟨(D (pickOf t q)).val % 128, Nat.mod_lt _ (by decide)⟩
  have hR : (D (pickOf t q)).val = 128 * b.val + r.val := (Nat.div_add_mod _ _).symm
  refine (arr0_at (adm m h 0) (Vpre m) 0 b r y (D (pickOf t q)) hR).trans ?_
  refine (acc0_ffn (adm m h 0) (Vpre m) 0 b (f t q) ((hD.expert (pickOf t q) b rfl).trans (congrArg (BitVec.ofNat 32) (pick_pickOf f t q)))
    (hD.used (pickOf t q) b rfl) r y (D (pickOf t q)) hR).trans ?_
  have hx : (fun k => (Vpre m 0 main_v111 : FVec Ideal S5120x1024 .f32) (ix2 (D (pickOf t q)) k)) = rowAt m t := funext fun k =>
    (hD.row (pickOf t q) t (by have := q.isLt; show t.val = (2 * t.val + q.val) / 2; omega) k).trans (congrFun (vpre_arg0 m 0) _)
  rw [vpre_arg2, vpre_arg3, vpre_arg4]
  exact congrArg (fun x => ffn x _ _ _ (f t q) y) hx

/-- The program's result at a token: its two experts' outputs, each times its scaled score. -/
theorem out113_at (t : Fin 2048) (y : Fin 1024) :
    (out113 m h 0 : FVec Ideal S2048x1024 .f32) (ix2 t y)
      = (scoreAt m t 0 * (out112 m h 0 : FVec Ideal S5120x1024 .f32) (ix2 (D (pickOf t 0)) y)
        + scoreAt m t 1 * (out112 m h 0 : FVec Ideal S5120x1024 .f32) (ix2 (D (pickOf t 1)) y) : EReal) := by
  have hN : grid1.N = 8 := by decide
  have ht := t.isLt
  let s : Fin grid1.N := ⟨t.val / 256, by omega⟩
  let r : Fin 256 := ⟨t.val % 256, Nat.mod_lt _ (by decide)⟩
  have hT : t.val = 256 * s.val + r.val := (Nat.div_add_mod _ _).symm
  refine (arr1_at (adm m h 1) (Vmid m h) 0 s r y t hT).trans ?_
  have hpos : ∀ (q : Fin 2) (n : ℕ), n = 2 * (256 * ((grid1.coords s 0 : Fin 8) : ℕ) + r.val) + q.val →
      rowOf (((adm m h 1).1 0 : IVec S4096 32) (ix1 (wordAt n))).toNat = D (pickOf t q) := fun q n hn => by
    have hq := q.isLt
    have hw : wordAt n = pickOf t q := Fin.ext (by
      show n % 4096 = 2 * t.val + q.val
      rw [hn, coords1 s, ← hT, Nat.mod_eq_of_lt (by omega)])
    rw [hw]
    have hp : ((adm m h 1).1 0 : IVec S4096 32) (ix1 (pickOf t q)) = BitVec.ofNat 32 (D (pickOf t q)).val := hD.pos (pickOf t q)
    have hl := (D (pickOf t q)).isLt
    rw [hp, BitVec.toNat_ofNat]
    refine Fin.ext ?_
    show _ % 5120 = _
    rw [Nat.mod_eq_of_lt (a := (D (pickOf t q)).val) (by omega), Nat.mod_eq_of_lt hl]
  have hv : Vmid m h 0 main_v112 = out112 m h 0 := vmid_v112 m 0 h
  have hw : Vmid m h 0 main_v16 = Vpre m 0 main_v16 := vmid_v16 m 0 h
  unfold combAt
  refine congrArg₂ (fun x y : EReal => x + y) (congrArg₂ (fun x y : EReal => x * y) ?_ ?_) (congrArg₂ (fun x y : EReal => x * y) ?_ ?_)
  · exact (blk1_0_at (adm m h 1) (Vmid m h) 0 s r 0 t hT).trans (congrFun hw _)
  · refine (blk1_1_at (adm m h 1) (Vmid m h) 0 s _ y).trans ((congrFun hv _).trans ?_)
    exact congrArg (fun R => (out112 m h 0 : FVec Ideal S5120x1024 .f32) (ix2 R y)) (hpos 0 _ rfl)
  · exact (blk1_0_at (adm m h 1) (Vmid m h) 0 s r 1 t hT).trans (congrFun hw _)
  · refine (blk1_1_at (adm m h 1) (Vmid m h) 0 s _ y).trans ((congrFun hv _).trans ?_)
    exact congrArg (fun R => (out112 m h 0 : FVec Ideal S5120x1024 .f32) (ix2 R y)) (hpos 1 _ rfl)

end Result

end Cert.Proof.KernelIdeal

namespace Cert.Proof

open Idealize.ShloMosaic Idealize.ShloMosaic.TcCoe

/-- The reference's output of an expert on a token is the kernel's. -/
theorem dense_ffn (x : FVec Ideal Cert.ReferenceIdeal.S2048x1024 .f32) (g u : FVec Ideal Cert.ReferenceIdeal.S8x2048x1024 .f32)
    (d : FVec Ideal Cert.ReferenceIdeal.S8x1024x2048 .f32) (t : Fin 2048) (e : Fin 8) (y : Fin 1024) :
    ReferenceIdeal.dense x g u d (ix3 t e y) = KernelIdeal.ffn (fun k => x (ix2 t k)) g u d e y := by
  rw [ReferenceIdeal.dense_at]
  unfold KernelIdeal.ffn KernelIdeal.share KernelIdeal.act
  refine Finset.sum_congr rfl fun f _ => ?_
  rw [ReferenceIdeal.hidden_at, ReferenceIdeal.proj_at, ReferenceIdeal.proj_at]
  exact mul_comm (G := EReal) _ _

/-- From equal arguments, the two results are equal. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (h : KernelIdeal.TabOk m)
    (h0 : m' ((0 : Dev Cert.ReferenceIdeal.nD).tc.loc Cert.ReferenceIdeal.main_arg0) = m ((0 : Dev Cert.KernelIdeal.nD).tc.loc Cert.KernelIdeal.main_arg0))
    (h1 : m' ((0 : Dev Cert.ReferenceIdeal.nD).tc.loc Cert.ReferenceIdeal.main_arg1) = m ((0 : Dev Cert.KernelIdeal.nD).tc.loc Cert.KernelIdeal.main_arg1))
    (h2 : m' ((0 : Dev Cert.ReferenceIdeal.nD).tc.loc Cert.ReferenceIdeal.main_arg2) = m ((0 : Dev Cert.KernelIdeal.nD).tc.loc Cert.KernelIdeal.main_arg2))
    (h3 : m' ((0 : Dev Cert.ReferenceIdeal.nD).tc.loc Cert.ReferenceIdeal.main_arg3) = m ((0 : Dev Cert.KernelIdeal.nD).tc.loc Cert.KernelIdeal.main_arg3))
    (h4 : m' ((0 : Dev Cert.ReferenceIdeal.nD).tc.loc Cert.ReferenceIdeal.main_arg4) = m ((0 : Dev Cert.KernelIdeal.nD).tc.loc Cert.KernelIdeal.main_arg4)) :
    Cert.ReferenceIdeal.Value.res_main_v41 m' 0 = KernelIdeal.out113 m h 0 := by
  obtain ⟨f, hf⟩ := KernelIdeal.exists_top (m ((0 : Dev Cert.KernelIdeal.nD).tc.loc Cert.KernelIdeal.main_arg0))
    (m ((0 : Dev Cert.KernelIdeal.nD).tc.loc Cert.KernelIdeal.main_arg1))
  obtain ⟨D, hD⟩ := KernelIdeal.routed_pre m 0 hf
  rw [ReferenceIdeal.result_eq]
  funext z
  obtain ⟨t, y, rfl⟩ : ∃ (t : Fin 2048) (y : Fin 1024), z = ix2 t y := ⟨z 0, z 1, ValueIdx.eq_ix2 z⟩
  refine Eq.trans ?_ (KernelIdeal.out113_at m h f D hD t y).symm
  rw [KernelIdeal.out112_at m h f D hD, KernelIdeal.out112_at m h f D hD, KernelIdeal.scoreAt, KernelIdeal.scoreAt, KernelIdeal.vpre_v16]
  refine (ReferenceIdeal.mix_table _ _ _ f (fun t q => ?_) t (hf.inj t) y).trans ?_
  · rw [h0, h1]
    exact hf.index t q
  · rw [dense_ffn, dense_ffn, h0, h1, h2, h3, h4]

/-- The idealized kernel and the reference, from equal arguments, end with equal results. -/
theorem algebraic : Cert.algebraic_KernelIdeal_ReferenceIdeal (hKernelIdeal := Cert.KernelIdeal.Gen.facts) (hReferenceIdeal := Cert.ReferenceIdeal.Gen.facts) := by
  intro m g m' g' _ hargs
  have h := KernelIdeal.tabOk m
  refine ⟨fun c => KernelIdeal.out113 m h c, (θ_run _ _ _).mono (fun r hr => hr.1) (KernelIdeal.run_main m h g),
    (θ_run _ _ _).mono (fun r hr c => ⟨(hr c).1.trans ?_, (hr c).2⟩) (Cert.ReferenceIdeal.Value.run m' g')⟩
  obtain rfl : c = 0 := Subsingleton.elim _ _
  obtain ⟨h0, h1, h2, h3, h4⟩ := hargs 0
  exact result_eq m m' h h0 h1 h2 h3 h4

end Cert.Proof
-- ==== Proof.lean ====
module

public import proofs.«01_k».proof.Defs
public import proofs.«01_k».proof.Proof.Frames
public import proofs.«01_k».proof.Proof.Algebraic

@[expose] public section

noncomputable section

namespace Cert.Proof

/-- Everything claimed: the three frames, that the idealised kernel is the kernel's own text, and that over the extended
reals the kernel's result is the reference's. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof
end
